-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024x50 : Shape := ⟨2, ![1024, 50]⟩
abbrev S1000x1024 : Shape := ⟨2, ![1000, 1024]⟩
abbrev S_ : Shape := ⟨0, ![]⟩

class Facts : Prop where
  bcast_S_S1024x50 : S_.BroadcastsInDim S1024x50 (![] : Fin 0 → Fin S1024x50.rank)
  reducesTo_S1024x50_S_d0_1 : S1024x50.ReducesTo [0, 1] S_
  h_S_ : 0 < S_.numel

variable [Facts]

def fn {F : FTy → Type} [FloatOps F] (main_arg0 : IVec S1024x50 32) (main_arg1 : FVec F S1000x1024 .f32) : IVec S_ 1 :=
  let main_c : IVec S_ 32 := constantI S_ 32 0#32
  let main_v0 : IVec S1024x50 32 := broadcastInDim S1024x50 ![] bcast_S_S1024x50 main_c
  let main_v1 : IVec S1024x50 1 := cmpi .sge main_arg0 main_v0
  let main_c_0 : IVec S_ 32 := constantI S_ 32 1000#32
  let main_v2 : IVec S1024x50 32 := broadcastInDim S1024x50 ![] bcast_S_S1024x50 main_c_0
  let main_v3 : IVec S1024x50 1 := cmpi .slt main_arg0 main_v2
  let main_v4 : IVec S1024x50 1 := andi main_v1 main_v3
  let main_c_1 : IVec S_ 1 := constantI S_ 1 1#1
  let main_v5 : IVec S_ 1 := (fun x v => Host.reduce IntOp.andi x v reducesTo_S1024x50_S_d0_1 h_S_) main_v4 main_c_1
  main_v5
-- ==== Kernel.lean ====
abbrev S1024x50 : Shape := ⟨2, ![1024, 50]⟩
abbrev S1000x1024 : Shape := ⟨2, ![1000, 1024]⟩
abbrev S51200 : Shape := ⟨1, ![51200]⟩
abbrev S32x32768 : Shape := ⟨2, ![32, 32768]⟩
abbrev S1600 : Shape := ⟨1, ![1600]⟩
abbrev S32768 : Shape := ⟨1, ![32768]⟩
abbrev S_ : Shape := ⟨0, ![]⟩
abbrev S16 : Shape := ⟨1, ![16]⟩
abbrev S8192 : Shape := ⟨1, ![8192]⟩
abbrev S1x8192 : Shape := ⟨2, ![1, 8192]⟩
abbrev S128x8x8x128 : Shape := ⟨4, ![128, 8, 8, 128]⟩
abbrev S1024x1024 : Shape := ⟨2, ![1024, 1024]⟩
abbrev S64x8x8x128 : Shape := ⟨4, ![64, 8, 8, 128]⟩
abbrev S512x1024 : Shape := ⟨2, ![512, 1024]⟩
abbrev S512x1000 : Shape := ⟨2, ![512, 1000]⟩

abbrev nBuf : Table → Nat
  | .hbm => 7
  | .local .tc .vmem => 5
  | .local .scVector .vmem => 2
  | _ => 0

abbrev bufTy : (tb : Table) → Fin (nBuf tb) → BufTy
  | .hbm, ⟨0, _⟩ => ⟨S1024x50, .i32⟩
  | .hbm, ⟨1, _⟩ => ⟨S1000x1024, .f32⟩
  | .hbm, ⟨2, _⟩ => ⟨S51200, .i32⟩
  | .hbm, ⟨3, _⟩ => ⟨S32x32768, .f32⟩
  | .hbm, ⟨4, _⟩ => ⟨S128x8x8x128, .f32⟩
  | .hbm, ⟨5, _⟩ => ⟨S1000x1024, .bf16⟩
  | .hbm, ⟨6, _⟩ => ⟨S1024x1024, .f32⟩
  | .local .tc .vmem, ⟨0, _⟩ => ⟨S64x8x8x128, .f32⟩
  | .local .tc .vmem, ⟨1, _⟩ => ⟨S64x8x8x128, .f32⟩
  | .local .tc .vmem, ⟨2, _⟩ => ⟨S1000x1024, .bf16⟩
  | .local .tc .vmem, ⟨3, _⟩ => ⟨S512x1024, .f32⟩
  | .local .tc .vmem, ⟨4, _⟩ => ⟨S512x1024, .f32⟩
  | .local .scVector .vmem, ⟨0, _⟩ => ⟨S1600, .i32⟩
  | .local .scVector .vmem, ⟨1, _⟩ => ⟨S32768, .f32⟩
  | _, _ => ⟨S1024x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => true
  | ⟨3, _⟩ => true
  | ⟨4, _⟩ => true
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v0_scv : Ref sig .scVector := ⟨.hbm, 2, rfl⟩
abbrev main_v1_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch0 : Ref sig .scVector := ⟨.vmem, 0, rfl⟩
abbrev cc0_scratch1 : Ref sig .scVector := ⟨.vmem, 1, rfl⟩
abbrev cc1_sem0_0 : DmaSem sig := 2
abbrev cc1_sem0_1 : DmaSem sig := 3
abbrev cc1_sem1_0 : DmaSem sig := 4
abbrev cc1_sem2_0 : DmaSem sig := 5
abbrev cc1_sem2_1 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  ![v2.toNat]
@[reducible] def k0_t1_loop : Scf.Loop 32 :=
  let c0_i32_0 : BitVec 32 := 0#32
  let c128_i32 : BitVec 32 := 128#32
  let v6 : BitVec 32 := Scalar.addi c0_i32_0 c128_i32
  let c1_i32 : BitVec 32 := 1#32
  ⟨c0_i32_0, v6, c1_i32⟩
def k0_off2 (k0_t1 : Fin k0_t1_loop.trips) (c0_i32_50 : BitVec 32) : Fin 1 → Nat :=
  let c0_i32_0 : BitVec 32 := 0#32
  let c1_i32 : BitVec 32 := 1#32
  let arg8 : BitVec 32 := Scf.iv c0_i32_0 c1_i32 k0_t1
  let c16_i32_49 : BitVec 32 := 16#32
  let v70 : BitVec 32 := Scalar.muli arg8 c16_i32_49
  let v71 : BitVec 32 := Scalar.addi v70 c0_i32_50
  let c16_i32_51 : BitVec 32 := 16#32
  let v72 : BitVec 32 := Scalar.muli v71 c16_i32_51
  let v73 : Index := Scalar.indexCast v72
  ![v73.toNat]
@[reducible] def k0_t2_loop : Scf.Loop 32 :=
  let c0_i32_4 : BitVec 32 := 0#32
  let c8_i32 : BitVec 32 := 8#32
  let v14 : BitVec 32 := Scalar.addi c0_i32_4 c8_i32
  let c1_i32_5 : BitVec 32 := 1#32
  ⟨c0_i32_4, v14, c1_i32_5⟩
def k0_off3 (k0_t2 : Fin k0_t2_loop.trips) : Fin 1 → Nat :=
  let c0_i32_4 : BitVec 32 := 0#32
  let c1_i32_5 : BitVec 32 := 1#32
  let arg8 : BitVec 32 := Scf.iv c0_i32_4 c1_i32_5 k0_t2
  let c50_i32 : BitVec 32 := 50#32
  let v71 : BitVec 32 := Scalar.muli arg8 c50_i32
  let c0_i32_49 : BitVec 32 := 0#32
  let v72 : BitVec 32 := Scalar.addi v71 c0_i32_49
  let v73 : Index := Scalar.indexCast v72
  ![v73.toNat]

def k0_chk1 (v76 : IVec S16 32) : Prop :=
  (∀ a x, ((![v76] : Fin 1 → IVec S16 32) a x).toNat < S32768.size a)
theorem k0_idx1_inb : ∀ (v76 : IVec S16 32) (k0_hw1 : k0_chk1 v76), ∀ a x, ((![v76] : Fin 1 → IVec S16 32) a x).toNat < S32768.size a := fun v76 k0_hw1 => k0_hw1
def k0_off4 (k0_t2 : Fin k0_t2_loop.trips) : Fin 1 → Nat :=
  let c0_i32_4 : BitVec 32 := 0#32
  let c1_i32_5 : BitVec 32 := 1#32
  let arg8 : BitVec 32 := Scf.iv c0_i32_4 c1_i32_5 k0_t2
  let c50_i32_50 : BitVec 32 := 50#32
  let v77 : BitVec 32 := Scalar.muli arg8 c50_i32_50
  let c16_i32_51 : BitVec 32 := 16#32
  let v78 : BitVec 32 := Scalar.addi v77 c16_i32_51
  let v79 : Index := Scalar.indexCast v78
  ![v79.toNat]

def k0_chk2 (v82 : IVec S16 32) : Prop :=
  (∀ a x, ((![v82] : Fin 1 → IVec S16 32) a x).toNat < S32768.size a)
theorem k0_idx2_inb : ∀ (v82 : IVec S16 32) (k0_hw2 : k0_chk2 v82), ∀ a x, ((![v82] : Fin 1 → IVec S16 32) a x).toNat < S32768.size a := fun v82 k0_hw2 => k0_hw2
def k0_off5 (k0_t2 : Fin k0_t2_loop.trips) : Fin 1 → Nat :=
  let c0_i32_4 : BitVec 32 := 0#32
  let c1_i32_5 : BitVec 32 := 1#32
  let arg8 : BitVec 32 := Scf.iv c0_i32_4 c1_i32_5 k0_t2
  let c50_i32_52 : BitVec 32 := 50#32
  let v83 : BitVec 32 := Scalar.muli arg8 c50_i32_52
  let c32_i32 : BitVec 32 := 32#32
  let v84 : BitVec 32 := Scalar.addi v83 c32_i32
  let v85 : Index := Scalar.indexCast v84
  ![v85.toNat]

def k0_chk3 (v88 : IVec S16 32) : Prop :=
  (∀ a x, ((![v88] : Fin 1 → IVec S16 32) a x).toNat < S32768.size a)
theorem k0_idx3_inb : ∀ (v88 : IVec S16 32) (k0_hw3 : k0_chk3 v88), ∀ a x, ((![v88] : Fin 1 → IVec S16 32) a x).toNat < S32768.size a := fun v88 k0_hw3 => k0_hw3
def k0_off6 (k0_t2 : Fin k0_t2_loop.trips) : Fin 1 → Nat :=
  let c0_i32_4 : BitVec 32 := 0#32
  let c1_i32_5 : BitVec 32 := 1#32
  let arg8 : BitVec 32 := Scf.iv c0_i32_4 c1_i32_5 k0_t2
  let c50_i32_53 : BitVec 32 := 50#32
  let v89 : BitVec 32 := Scalar.muli arg8 c50_i32_53
  let c50_i32_54 : BitVec 32 := 50#32
  let v90 : BitVec 32 := Scalar.addi v89 c50_i32_54
  let c16_i32_55 : BitVec 32 := 16#32
  let v91 : BitVec 32 := Scalar.subi v90 c16_i32_55
  let v92 : Index := Scalar.indexCast v91
  ![v92.toNat]

def k0_chk4 (v95 : IVec S16 32) : Prop :=
  (∀ a x, ((![v95] : Fin 1 → IVec S16 32) a x).toNat < S32768.size a)
theorem k0_idx4_inb : ∀ (v95 : IVec S16 32) (k0_hw4 : k0_chk4 v95), ∀ a x, ((![v95] : Fin 1 → IVec S16 32) a x).toNat < S32768.size a := fun v95 k0_hw4 => k0_hw4
def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_8 : BitVec 32 := 0#32
  ![v1.toNat, 0]
@[reducible] def k0_t3_loop : Scf.Loop 32 :=
  let c8_i32_12 : BitVec 32 := 8#32
  let c8_i32_13 : BitVec 32 := 8#32
  let v22 : BitVec 32 := Scalar.addi c8_i32_12 c8_i32_13
  let c1_i32_14 : BitVec 32 := 1#32
  ⟨c8_i32_12, v22, c1_i32_14⟩
def k0_off8 (k0_t3 : Fin k0_t3_loop.trips) : Fin 1 → Nat :=
  let c8_i32_12 : BitVec 32 := 8#32
  let c1_i32_14 : BitVec 32 := 1#32
  let arg8 : BitVec 32 := Scf.iv c8_i32_12 c1_i32_14 k0_t3
  let c50_i32 : BitVec 32 := 50#32
  let v71 : BitVec 32 := Scalar.muli arg8 c50_i32
  let c0_i32_49 : BitVec 32 := 0#32
  let v72 : BitVec 32 := Scalar.addi v71 c0_i32_49
  let v73 : Index := Scalar.indexCast v72
  ![v73.toNat]

def k0_chk5 (v76 : IVec S16 32) : Prop :=
  (∀ a x, ((![v76] : Fin 1 → IVec S16 32) a x).toNat < S32768.size a)
theorem k0_idx5_inb : ∀ (v76 : IVec S16 32) (k0_hw5 : k0_chk5 v76), ∀ a x, ((![v76] : Fin 1 → IVec S16 32) a x).toNat < S32768.size a := fun v76 k0_hw5 => k0_hw5
def k0_off9 (k0_t3 : Fin k0_t3_loop.trips) : Fin 1 → Nat :=
  let c8_i32_12 : BitVec 32 := 8#32
  let c1_i32_14 : BitVec 32 := 1#32
  let arg8 : BitVec 32 := Scf.iv c8_i32_12 c1_i32_14 k0_t3
  let c50_i32_50 : BitVec 32 := 50#32
  let v77 : BitVec 32 := Scalar.muli arg8 c50_i32_50
  let c16_i32_51 : BitVec 32 := 16#32
  let v78 : BitVec 32 := Scalar.addi v77 c16_i32_51
  let v79 : Index := Scalar.indexCast v78
  ![v79.toNat]

def k0_chk6 (v82 : IVec S16 32) : Prop :=
  (∀ a x, ((![v82] : Fin 1 → IVec S16 32) a x).toNat < S32768.size a)
theorem k0_idx6_inb : ∀ (v82 : IVec S16 32) (k0_hw6 : k0_chk6 v82), ∀ a x, ((![v82] : Fin 1 → IVec S16 32) a x).toNat < S32768.size a := fun v82 k0_hw6 => k0_hw6
def k0_off10 (k0_t3 : Fin k0_t3_loop.trips) : Fin 1 → Nat :=
  let c8_i32_12 : BitVec 32 := 8#32
  let c1_i32_14 : BitVec 32 := 1#32
  let arg8 : BitVec 32 := Scf.iv c8_i32_12 c1_i32_14 k0_t3
  let c50_i32_52 : BitVec 32 := 50#32
  let v83 : BitVec 32 := Scalar.muli arg8 c50_i32_52
  let c32_i32 : BitVec 32 := 32#32
  let v84 : BitVec 32 := Scalar.addi v83 c32_i32
  let v85 : Index := Scalar.indexCast v84
  ![v85.toNat]

def k0_chk7 (v88 : IVec S16 32) : Prop :=
  (∀ a x, ((![v88] : Fin 1 → IVec S16 32) a x).toNat < S32768.size a)
theorem k0_idx7_inb : ∀ (v88 : IVec S16 32) (k0_hw7 : k0_chk7 v88), ∀ a x, ((![v88] : Fin 1 → IVec S16 32) a x).toNat < S32768.size a := fun v88 k0_hw7 => k0_hw7
def k0_off11 (k0_t3 : Fin k0_t3_loop.trips) : Fin 1 → Nat :=
  let c8_i32_12 : BitVec 32 := 8#32
  let c1_i32_14 : BitVec 32 := 1#32
  let arg8 : BitVec 32 := Scf.iv c8_i32_12 c1_i32_14 k0_t3
  let c50_i32_53 : BitVec 32 := 50#32
  let v89 : BitVec 32 := Scalar.muli arg8 c50_i32_53
  let c50_i32_54 : BitVec 32 := 50#32
  let v90 : BitVec 32 := Scalar.addi v89 c50_i32_54
  let c16_i32_55 : BitVec 32 := 16#32
  let v91 : BitVec 32 := Scalar.subi v90 c16_i32_55
  let v92 : Index := Scalar.indexCast v91
  ![v92.toNat]

def k0_chk8 (v95 : IVec S16 32) : Prop :=
  (∀ a x, ((![v95] : Fin 1 → IVec S16 32) a x).toNat < S32768.size a)
theorem k0_idx8_inb : ∀ (v95 : IVec S16 32) (k0_hw8 : k0_chk8 v95), ∀ a x, ((![v95] : Fin 1 → IVec S16 32) a x).toNat < S32768.size a := fun v95 k0_hw8 => k0_hw8
def k0_off12 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32_16 : BitVec 32 := 8192#32
  ![v1.toNat, 8192]
@[reducible] def k0_t4_loop : Scf.Loop 32 :=
  let c16_i32 : BitVec 32 := 16#32
  let c8_i32_20 : BitVec 32 := 8#32
  let v30 : BitVec 32 := Scalar.addi c16_i32 c8_i32_20
  let c1_i32_21 : BitVec 32 := 1#32
  ⟨c16_i32, v30, c1_i32_21⟩
def k0_off13 (k0_t4 : Fin k0_t4_loop.trips) : Fin 1 → Nat :=
  let c16_i32 : BitVec 32 := 16#32
  let c1_i32_21 : BitVec 32 := 1#32
  let arg8 : BitVec 32 := Scf.iv c16_i32 c1_i32_21 k0_t4
  let c50_i32 : BitVec 32 := 50#32
  let v71 : BitVec 32 := Scalar.muli arg8 c50_i32
  let c0_i32_49 : BitVec 32 := 0#32
  let v72 : BitVec 32 := Scalar.addi v71 c0_i32_49
  let v73 : Index := Scalar.indexCast v72
  ![v73.toNat]

def k0_chk9 (v76 : IVec S16 32) : Prop :=
  (∀ a x, ((![v76] : Fin 1 → IVec S16 32) a x).toNat < S32768.size a)
theorem k0_idx9_inb : ∀ (v76 : IVec S16 32) (k0_hw9 : k0_chk9 v76), ∀ a x, ((![v76] : Fin 1 → IVec S16 32) a x).toNat < S32768.size a := fun v76 k0_hw9 => k0_hw9
def k0_off14 (k0_t4 : Fin k0_t4_loop.trips) : Fin 1 → Nat :=
  let c16_i32 : BitVec 32 := 16#32
  let c1_i32_21 : BitVec 32 := 1#32
  let arg8 : BitVec 32 := Scf.iv c16_i32 c1_i32_21 k0_t4
  let c50_i32_50 : BitVec 32 := 50#32
  let v77 : BitVec 32 := Scalar.muli arg8 c50_i32_50
  let c16_i32_51 : BitVec 32 := 16#32
  let v78 : BitVec 32 := Scalar.addi v77 c16_i32_51
  let v79 : Index := Scalar.indexCast v78
  ![v79.toNat]

def k0_chk10 (v82 : IVec S16 32) : Prop :=
  (∀ a x, ((![v82] : Fin 1 → IVec S16 32) a x).toNat < S32768.size a)
theorem k0_idx10_inb : ∀ (v82 : IVec S16 32) (k0_hw10 : k0_chk10 v82), ∀ a x, ((![v82] : Fin 1 → IVec S16 32) a x).toNat < S32768.size a := fun v82 k0_hw10 => k0_hw10
def k0_off15 (k0_t4 : Fin k0_t4_loop.trips) : Fin 1 → Nat :=
  let c16_i32 : BitVec 32 := 16#32
  let c1_i32_21 : BitVec 32 := 1#32
  let arg8 : BitVec 32 := Scf.iv c16_i32 c1_i32_21 k0_t4
  let c50_i32_52 : BitVec 32 := 50#32
  let v83 : BitVec 32 := Scalar.muli arg8 c50_i32_52
  let c32_i32 : BitVec 32 := 32#32
  let v84 : BitVec 32 := Scalar.addi v83 c32_i32
  let v85 : Index := Scalar.indexCast v84
  ![v85.toNat]

def k0_chk11 (v88 : IVec S16 32) : Prop :=
  (∀ a x, ((![v88] : Fin 1 → IVec S16 32) a x).toNat < S32768.size a)
theorem k0_idx11_inb : ∀ (v88 : IVec S16 32) (k0_hw11 : k0_chk11 v88), ∀ a x, ((![v88] : Fin 1 → IVec S16 32) a x).toNat < S32768.size a := fun v88 k0_hw11 => k0_hw11
def k0_off16 (k0_t4 : Fin k0_t4_loop.trips) : Fin 1 → Nat :=
  let c16_i32 : BitVec 32 := 16#32
  let c1_i32_21 : BitVec 32 := 1#32
  let arg8 : BitVec 32 := Scf.iv c16_i32 c1_i32_21 k0_t4
  let c50_i32_53 : BitVec 32 := 50#32
  let v89 : BitVec 32 := Scalar.muli arg8 c50_i32_53
  let c50_i32_54 : BitVec 32 := 50#32
  let v90 : BitVec 32 := Scalar.addi v89 c50_i32_54
  let c16_i32_55 : BitVec 32 := 16#32
  let v91 : BitVec 32 := Scalar.subi v90 c16_i32_55
  let v92 : Index := Scalar.indexCast v91
  ![v92.toNat]

def k0_chk12 (v95 : IVec S16 32) : Prop :=
  (∀ a x, ((![v95] : Fin 1 → IVec S16 32) a x).toNat < S32768.size a)
theorem k0_idx12_inb : ∀ (v95 : IVec S16 32) (k0_hw12 : k0_chk12 v95), ∀ a x, ((![v95] : Fin 1 → IVec S16 32) a x).toNat < S32768.size a := fun v95 k0_hw12 => k0_hw12
def k0_off17 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32_23 : BitVec 32 := 16384#32
  ![v1.toNat, 16384]
@[reducible] def k0_t5_loop : Scf.Loop 32 :=
  let c24_i32 : BitVec 32 := 24#32
  let c8_i32_27 : BitVec 32 := 8#32
  let v38 : BitVec 32 := Scalar.addi c24_i32 c8_i32_27
  let c1_i32_28 : BitVec 32 := 1#32
  ⟨c24_i32, v38, c1_i32_28⟩
def k0_off18 (k0_t5 : Fin k0_t5_loop.trips) : Fin 1 → Nat :=
  let c24_i32 : BitVec 32 := 24#32
  let c1_i32_28 : BitVec 32 := 1#32
  let arg8 : BitVec 32 := Scf.iv c24_i32 c1_i32_28 k0_t5
  let c50_i32 : BitVec 32 := 50#32
  let v71 : BitVec 32 := Scalar.muli arg8 c50_i32
  let c0_i32_49 : BitVec 32 := 0#32
  let v72 : BitVec 32 := Scalar.addi v71 c0_i32_49
  let v73 : Index := Scalar.indexCast v72
  ![v73.toNat]

def k0_chk13 (v76 : IVec S16 32) : Prop :=
  (∀ a x, ((![v76] : Fin 1 → IVec S16 32) a x).toNat < S32768.size a)
theorem k0_idx13_inb : ∀ (v76 : IVec S16 32) (k0_hw13 : k0_chk13 v76), ∀ a x, ((![v76] : Fin 1 → IVec S16 32) a x).toNat < S32768.size a := fun v76 k0_hw13 => k0_hw13
def k0_off19 (k0_t5 : Fin k0_t5_loop.trips) : Fin 1 → Nat :=
  let c24_i32 : BitVec 32 := 24#32
  let c1_i32_28 : BitVec 32 := 1#32
  let arg8 : BitVec 32 := Scf.iv c24_i32 c1_i32_28 k0_t5
  let c50_i32_50 : BitVec 32 := 50#32
  let v77 : BitVec 32 := Scalar.muli arg8 c50_i32_50
  let c16_i32_51 : BitVec 32 := 16#32
  let v78 : BitVec 32 := Scalar.addi v77 c16_i32_51
  let v79 : Index := Scalar.indexCast v78
  ![v79.toNat]

def k0_chk14 (v82 : IVec S16 32) : Prop :=
  (∀ a x, ((![v82] : Fin 1 → IVec S16 32) a x).toNat < S32768.size a)
theorem k0_idx14_inb : ∀ (v82 : IVec S16 32) (k0_hw14 : k0_chk14 v82), ∀ a x, ((![v82] : Fin 1 → IVec S16 32) a x).toNat < S32768.size a := fun v82 k0_hw14 => k0_hw14
def k0_off20 (k0_t5 : Fin k0_t5_loop.trips) : Fin 1 → Nat :=
  let c24_i32 : BitVec 32 := 24#32
  let c1_i32_28 : BitVec 32 := 1#32
  let arg8 : BitVec 32 := Scf.iv c24_i32 c1_i32_28 k0_t5
  let c50_i32_52 : BitVec 32 := 50#32
  let v83 : BitVec 32 := Scalar.muli arg8 c50_i32_52
  let c32_i32 : BitVec 32 := 32#32
  let v84 : BitVec 32 := Scalar.addi v83 c32_i32
  let v85 : Index := Scalar.indexCast v84
  ![v85.toNat]

def k0_chk15 (v88 : IVec S16 32) : Prop :=
  (∀ a x, ((![v88] : Fin 1 → IVec S16 32) a x).toNat < S32768.size a)
theorem k0_idx15_inb : ∀ (v88 : IVec S16 32) (k0_hw15 : k0_chk15 v88), ∀ a x, ((![v88] : Fin 1 → IVec S16 32) a x).toNat < S32768.size a := fun v88 k0_hw15 => k0_hw15
def k0_off21 (k0_t5 : Fin k0_t5_loop.trips) : Fin 1 → Nat :=
  let c24_i32 : BitVec 32 := 24#32
  let c1_i32_28 : BitVec 32 := 1#32
  let arg8 : BitVec 32 := Scf.iv c24_i32 c1_i32_28 k0_t5
  let c50_i32_53 : BitVec 32 := 50#32
  let v89 : BitVec 32 := Scalar.muli arg8 c50_i32_53
  let c50_i32_54 : BitVec 32 := 50#32
  let v90 : BitVec 32 := Scalar.addi v89 c50_i32_54
  let c16_i32_55 : BitVec 32 := 16#32
  let v91 : BitVec 32 := Scalar.subi v90 c16_i32_55
  let v92 : Index := Scalar.indexCast v91
  ![v92.toNat]

def k0_chk16 (v95 : IVec S16 32) : Prop :=
  (∀ a x, ((![v95] : Fin 1 → IVec S16 32) a x).toNat < S32768.size a)
theorem k0_idx16_inb : ∀ (v95 : IVec S16 32) (k0_hw16 : k0_chk16 v95), ∀ a x, ((![v95] : Fin 1 → IVec S16 32) a x).toNat < S32768.size a := fun v95 k0_hw16 => k0_hw16
def k0_off22 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24576_i32_30 : BitVec 32 := 24576#32
  ![v1.toNat, 24576]
abbrev grid1 : Pipeline.Grid := ⟨1, ![2], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x8x8x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1000x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x50 : Shape := ⟨2, ![1024, 50]⟩
abbrev S1000x1024 : Shape := ⟨2, ![1000, 1024]⟩
abbrev S_ : Shape := ⟨0, ![]⟩
abbrev S1024x50x1 : Shape := ⟨3, ![1024, 50, 1]⟩
abbrev S1 : Shape := ⟨1, ![1]⟩
abbrev S1x1x1 : Shape := ⟨3, ![1, 1, 1]⟩
abbrev S1024x50x1024 : Shape := ⟨3, ![1024, 50, 1024]⟩
abbrev S1024x1024 : Shape := ⟨2, ![1024, 1024]⟩

abbrev nBuf : Space → Nat
  | .hbm => 27
  | .vmem => 0
  | .smem => 0
  | _ => 0

abbrev bufTy : (tb : Table) → Fin (tcTables nBuf tb) → BufTy
  | .hbm, ⟨0, _⟩ => ⟨S1024x50, .i32⟩
  | .hbm, ⟨1, _⟩ => ⟨S1000x1024, .f32⟩
  | .hbm, ⟨2, _⟩ => ⟨S_, .i32⟩
  | .hbm, ⟨3, _⟩ => ⟨S1024x50, .i32⟩
  | .hbm, ⟨4, _⟩ => ⟨S1024x50, .i1⟩
  | .hbm, ⟨5, _⟩ => ⟨S_, .i32⟩
  | .hbm, ⟨6, _⟩ => ⟨S1024x50, .i32⟩
  | .hbm, ⟨7, _⟩ => ⟨S1024x50, .i32⟩
  | .hbm, ⟨8, _⟩ => ⟨S1024x50, .i32⟩
  | .hbm, ⟨9, _⟩ => ⟨S1024x50x1, .i32⟩
  | .hbm, ⟨10, _⟩ => ⟨S1, .i32⟩
  | .hbm, ⟨11, _⟩ => ⟨S_, .i32⟩
  | .hbm, ⟨12, _⟩ => ⟨S1024x50x1, .i32⟩
  | .hbm, ⟨13, _⟩ => ⟨S1024x50x1, .i1⟩
  | .hbm, ⟨14, _⟩ => ⟨S1x1x1, .i32⟩
  | .hbm, ⟨15, _⟩ => ⟨S1024x50x1, .i32⟩
  | .hbm, ⟨16, _⟩ => ⟨S1024x50x1, .i1⟩
  | .hbm, ⟨17, _⟩ => ⟨S1024x50x1, .i1⟩
  | .hbm, ⟨18, _⟩ => ⟨S_, .i1⟩
  | .hbm, ⟨19, _⟩ => ⟨S1024x50, .i1⟩
  | .hbm, ⟨20, _⟩ => ⟨S1024x50x1024, .f32⟩
  | .hbm, ⟨21, _⟩ => ⟨S1024x50x1024, .i1⟩
  | .hbm, ⟨22, _⟩ => ⟨S_, .f32⟩
  | .hbm, ⟨23, _⟩ => ⟨S1024x50x1024, .f32⟩
  | .hbm, ⟨24, _⟩ => ⟨S1024x50x1024, .f32⟩
  | .hbm, ⟨25, _⟩ => ⟨S_, .f32⟩
  | .hbm, ⟨26, _⟩ => ⟨S1024x1024, .f32⟩
  | _, _ => ⟨S1024x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩

abbrev nD : Nat := 1
abbrev τ : Topo := Topo.v7x

variable {F : FTy → Type} [FloatOps F]
-- ==== Proof.Split.lean ====
/-
  A whole-array store taken apart. The scatter-add of the model reads the whole of its array and then stores the whole of it
  back, though all but the named elements are stored as they were read. A program that does so while a transfer out of another
  part of that array is pending is right, but the logic's rule for a store asks for the whole array outright, part of which the
  pending transfer holds.

  `split` rewrites such a store as a load of the array followed by stores, one element each, of those elements alone that the
  store changes (and of the last element of the array). The main theorem, `θ_run_of_split`, is about the machine alone: whatever every fair run of
  the split program meets, every fair run of the program itself meets. One store of the program is matched by the load and the
  single stores of the split program taken one after the other with no other agent between them; the states at both ends are
  the same.
-/
module

public import Idealize.ShloMosaic.Machine.Run
public import Idealize.ShloMosaic.Lib.Scf

@[expose] public section

noncomputable section

namespace Cert.Proof.Split
open Idealize.SL.Sem Idealize.ShloMosaic

variable {nD : Nat} {τ : Topo} {sig : RefSig} {Val : EltTy → Type} {Λ : Labels}

/-! ## One element of a rectangle -/

section One
variable {s : Shape}

/-- The rectangle of the one element at which `r` places its index `i`. -/
abbrev one (r : Rect s) (i : r.shape.Idx) : Rect s :=
  Rect.unit (fun a => (r.emb i a).val) (fun _ => 1) fun a => (r.emb i a).isLt

/-- The rectangle of one element has an element. -/
theorem one_numel_pos (r : Rect s) (i : r.shape.Idx) : 0 < (one r i).shape.numel := by
  exact Shape.numel_pos fun _ => Nat.one_pos

/-- It is the element it was made for. -/
theorem one_emb (r : Rect s) (i : r.shape.Idx) (x : (one r i).shape.Idx) : (one r i).emb x = r.emb i := by
  funext a
  apply Fin.ext
  have hx : (x a).val = 0 := by have := (x a).isLt; change (x a).val < 1 at this; omega
  show (one r i).off a + (one r i).stride a * (x a).val = _
  rw [hx]; rfl

end One

/-! ## The split program -/

section Prog
variable {p : Proc τ} {α β γ : Type}

/-- What is asked of a store that is taken apart: into tile memory at a word-wide element type, unmasked, of all of its array. -/
structure Whole {cs : CoreSpace} {s : Shape} {e : EltTy} (m : Memref sig p.kind cs s e) (r : Rect s) (M : Finset r.shape.Idx) : Prop where
  space : cs = .vmem
  bits : e.bits = 32
  all : M = Finset.univ
  size : r.size = s.size
  pos : ∀ a, 0 < r.size a

variable {cs : CoreSpace} {s : Shape} {e : EltTy} {m : Memref sig p.kind cs s e} {r : Rect s} {M : Finset r.shape.Idx}

/-- Each element of an array that is taken apart may be stored alone. -/
theorem Whole.stores (h : Whole m r M) (i : r.shape.Idx) : (m.access (one r i)).Stores Finset.univ := by
  obtain ⟨rfl, hb, _, _, _⟩ := h
  exact View.stores_vmem_bits_univ (one_numel_pos r i) hb

/-- The array may be loaded. -/
theorem Whole.loads (h : Whole m r M) : m.view.LoadsAt r.toLoadRect := by
  obtain ⟨rfl, hb, _, _, hp⟩ := h
  refine View.loadsAt_vmem ?_
  show 0 < r.shape.numel
  exact Shape.numel_pos hp

/-- The last index. -/
def Whole.last (h : Whole m r M) : r.shape.Idx := fun a => ⟨r.size a - 1, Nat.sub_lt (h.pos a) Nat.one_pos⟩

/-- The store of one element. -/
def oneStore (h : Whole m r M) (w : r.shape.Idx → Val e) (i : r.shape.Idx) : TpuEff nD τ sig Val Λ p PUnit :=
  .store m (one r i) (fun _ => w i) Finset.univ (h.stores i) (.inl rfl)

/-- Stores of one element each, in the list's order. -/
def storeAll (h : Whole m r M) (w : r.shape.Idx → Val e) : List r.shape.Idx → Prog (TpuEff nD τ sig Val Λ p) PUnit
  | [] => .ret ⟨⟩
  | i :: l => .op (oneStore h w i) fun _ => storeAll h w l

open Classical in
/-- The elements a split store writes: the last, and those whose contents `f` are not already those to store. -/
def touched (h : Whole m r M) (w f : r.shape.Idx → Val e) : List r.shape.Idx :=
  h.last :: (Finset.univ.filter fun i => f i ≠ w i).toList

/-- An element that a split store writes is the last one or one that changes. -/
theorem of_mem_touched (h : Whole m r M) {w f : r.shape.Idx → Val e} {i : r.shape.Idx} (hi : i ∈ touched h w f) : i = h.last ∨ f i ≠ w i := by
  unfold touched at hi
  classical simpa using hi

/-- The split store. -/
def splitStore (h : Whole m r M) (w : r.shape.Idx → Val e) : Prog (TpuEff nD τ sig Val Λ p) PUnit :=
  .op (.load m r.toLoadRect h.loads) fun f => storeAll h w (touched h w f)

open Classical in
/-- The split of one effect: a store of a whole array taken apart, every other effect as it is. -/
def splitEff : {β : Type} → TpuEff nD τ sig Val Λ p β → Prog (TpuEff nD τ sig Val Λ p) β
  | _, .store m r w M hs hm => if h : Whole m r M then splitStore h w else .op (.store m r w M hs hm) .ret
  | _, e => .op e .ret

open Classical in
/-- The split of a store, by whether it is taken apart. -/
theorem splitEff_store (w : r.shape.Idx → Val e) (hs : (m.access r).Stores M) (hm : M = Finset.univ ∨ ∀ a, r.stride a = 1) :
    splitEff (nD := nD) (Λ := Λ) (.store m r w M hs hm) = if h : Whole m r M then splitStore h w else .op (.store m r w M hs hm) .ret := rfl

/-- The split program: each effect split. -/
def split : Prog (TpuEff nD τ sig Val Λ p) α → Prog (TpuEff nD τ sig Val Λ p) α
  | .ret a => .ret a
  | .op e k => splitEff e >>= fun x => split (k x)

/-- The split of one program after another is the one's split after the other's. -/
theorem split_bind (q : Prog (TpuEff nD τ sig Val Λ p) α) (k : α → Prog (TpuEff nD τ sig Val Λ p) γ) :
    split (q >>= k) = split q >>= fun x => split (k x) := by
  induction q with
  | ret a => rfl
  | op e c ih =>
    show splitEff e >>= (fun x => split (c x >>= k)) = (splitEff e >>= fun x => split (c x)) >>= _
    rw [bind_assoc]
    exact congrArg _ (funext ih)

/-- The split of a counted loop is the loop of the split bodies. -/
theorem split_forFrom {σ : Type} {n : Nat} (b : Fin n → σ → Prog (TpuEff nD τ sig Val Λ p) σ) (ks : List (Fin n)) (a : σ) :
    split (Scf.forFrom b ks a) = Scf.forFrom (fun i x => split (b i x)) ks a := by
  induction ks generalizing a with
  | nil => rfl
  | cons k ks ih =>
    show split (b k a >>= fun x => Scf.forFrom b ks x) = split (b k a) >>= fun x => Scf.forFrom _ ks x
    rw [split_bind]
    exact congrArg _ (funext fun x => ih x)

/-- The split of a counted loop with its bounds is the loop of the split bodies. -/
theorem split_for {σ : Type} {w : Nat} (lb ub st : BitVec w) (hok : Scf.OK lb ub st) (a : σ)
    (b : Fin (Scf.trips lb ub st) → σ → Prog (TpuEff nD τ sig Val Λ p) σ) :
    split (Scf.for lb ub st hok a b) = Scf.for lb ub st hok a fun i x => split (b i x) := by
  rw [Scf.for_eq, Scf.for_eq]; exact split_forFrom _ _ _

end Prog

/-! ## The relation between a program and one split at some of its stores -/

/-- `Sim c q q'`: `q'` is `q` with some of its whole-array stores taken apart. -/
inductive Sim (c : Thread nD τ) {α : Type} :
    Prog (TpuEff nD τ sig Val Λ c.2) α → Prog (TpuEff nD τ sig Val Λ c.2) α → Prop
  | ret (a : α) : Sim c (.ret a) (.ret a)
  | op {β : Type} (e : TpuEff nD τ sig Val Λ c.2 β) {k k' : β → Prog (TpuEff nD τ sig Val Λ c.2) α} :
      (∀ x, Sim c (k x) (k' x)) → Sim c (.op e k) (.op e k')
  | store {cs : CoreSpace} {s : Shape} {e : EltTy} (m : Memref sig c.2.kind cs s e) (r : Rect s) (w : r.shape.Idx → Val e)
      (M : Finset r.shape.Idx) (hs : (m.access r).Stores M) (hm : M = Finset.univ ∨ ∀ a, r.stride a = 1) (h : Whole m r M)
      {k k' : PUnit → Prog (TpuEff nD τ sig Val Λ c.2) α} :
      (∀ x, Sim c (k x) (k' x)) → Sim c (.op (.store m r w M hs hm) k) (splitStore h w >>= k')

namespace Sim
variable {c : Thread nD τ} {α γ : Type}

/-- A program is related to itself. -/
theorem refl (q : Prog (TpuEff nD τ sig Val Λ c.2) α) : Sim c q q := by
  induction q with
  | ret a => exact .ret a
  | op e k ih => exact .op e ih

/-- The relation is a congruence for what follows. -/
theorem bind {q q' : Prog (TpuEff nD τ sig Val Λ c.2) α} (hq : Sim c q q') {k k' : α → Prog (TpuEff nD τ sig Val Λ c.2) γ}
    (hk : ∀ a, Sim c (k a) (k' a)) : Sim c (q >>= k) (q' >>= k') := by
  induction hq with
  | ret a => exact hk a
  | op e _ ih => exact .op e ih
  | store m r w M hs hm h _ ih =>
    rw [bind_assoc]
    exact .store m r w M hs hm h ih

/-- A program is related to its split. -/
theorem split (q : Prog (TpuEff nD τ sig Val Λ c.2) α) : Sim c q (split q) := by
  induction q with
  | ret a => exact .ret a
  | op e k ih =>
    cases e with
    | store m r w M hs hm =>
      show Sim c _ (splitEff _ >>= _)
      by_cases h : Whole m r M
      · rw [show splitEff (TpuEff.store (nD := nD) (Λ := Λ) m r w M hs hm) = splitStore h w from dif_pos h]
        exact .store m r w M hs hm h ih
      · rw [show splitEff (TpuEff.store (nD := nD) (Λ := Λ) m r w M hs hm) = .op (.store m r w M hs hm) .ret from dif_neg h]
        exact .op _ ih
    | _ => exact .op _ ih

end Sim

/-- Body tables related label by label. -/
def DefsSim (D D' : Defs nD τ sig Val Λ) : Prop := ∀ (c : Thread nD τ) (ℓ : Λ.Label) (a : Λ.Args ℓ), Sim c (D c.2 ℓ a) (D' c.2 ℓ a)

/-- Running states related: everything but the residual programs the same, the residual programs related. -/
structure RunSim (s t : RunSt nD τ sig Val Λ) : Prop where
  phys : s.toPhys = t.toPhys
  prog : ∀ c, Option.Rel (Sim c) (s.prog c) (t.prog c)

/-- Of two related states both are final or neither is. -/
theorem RunSim.final_iff {s t : RunSt nD τ sig Val Λ} (h : RunSim s t) : Final s ↔ Final t := by
  refine forall_congr' fun c => ?_
  have := h.prog c
  generalize s.prog c = q at *
  generalize t.prog c = q' at *
  cases this <;> simp

/-! ## The single stores, one after the other, are the store -/

section Mem
variable {c : Thread nD τ} {cs : CoreSpace} {s : Shape} {e : EltTy} {m : Memref sig c.2.kind cs s e} {r : Rect s}
  {M : Finset r.shape.Idx}

/-- An element that changes is written. -/
theorem mem_touched (h : Whole m r M) {w f : r.shape.Idx → Val e} {i : r.shape.Idx} (hi : f i ≠ w i) : i ∈ (touched h w f).toFinset := by
  unfold touched; classical simp [hi]

/-- The contents after a store of one element: `f` with that element replaced. -/
theorem write_one (f : m.view.ty.Contents Val) (w : r.shape.Idx → Val e) (i : r.shape.Idx) :
    (m.access (one r i)).write Val f (fun _ => w i) Finset.univ = (m.access r).write Val f w {i} := by
  funext j
  by_cases hj : ∃ x, (m.access r).emb x = j
  · obtain ⟨x, rfl⟩ := hj
    by_cases hx : x = i
    · subst hx
      have h1 : (m.access (one r x)).emb (fun _ => ⟨0, Nat.one_pos⟩) = (m.access r).emb x := by
        show m.view.emb ((one r x).emb _) = m.view.emb (r.emb x)
        rw [one_emb]
      rw [View.write_emb_of_mem _ _ (Finset.mem_singleton_self x), ← h1,
        View.write_emb_of_mem _ _ (Finset.mem_univ _)]
    · rw [View.write_of_not_mem, View.write_of_not_mem]
      · intro hc
        exact hx (Finset.mem_singleton.mp ((m.access r).mem_setOn.mp hc))
      · intro hc
        obtain ⟨y, -, hy⟩ := Finset.mem_map.mp hc
        have : m.view.emb ((one r i).emb y) = m.view.emb (r.emb x) := hy
        rw [one_emb] at this
        exact hx (r.emb.injective (m.view.emb.injective this)).symm
  · rw [View.write_of_not_mem, View.write_of_not_mem]
    · intro hc
      obtain ⟨y, -, hy⟩ := Finset.mem_map.mp hc
      exact hj ⟨y, hy⟩
    · intro hc
      obtain ⟨y, -, hy⟩ := Finset.mem_map.mp hc
      have : m.view.emb ((one r i).emb y) = j := hy
      rw [one_emb] at this
      exact hj ⟨i, this⟩

/-- Touching twice is touching once. -/
theorem touch_touch (ops : Thread nD τ → Option (PendingOp τ sig Val)) (d : Dev nD) (b : DevRef τ sig) {X Y : Type}
    {M : Finset X} {N : Finset Y} (hM : M.Nonempty) (hN : N.Nonempty) :
    Phys.touch (Phys.touch ops d b M) d b N = Phys.touch ops d b M := by
  funext c
  unfold Phys.touch
  cases ops c with
  | none => rfl
  | some po =>
    simp only [Option.map_some, Option.some.injEq, hM, hN, true_and]
    split
    · simp
    · rfl

/-- What a store touches depends on its mask only by whether it is empty. -/
theorem touch_congr (ops : Thread nD τ → Option (PendingOp τ sig Val)) (d : Dev nD) (b : DevRef τ sig) {X Y : Type}
    {M : Finset X} {N : Finset Y} (hM : M.Nonempty) (hN : N.Nonempty) : Phys.touch ops d b M = Phys.touch ops d b N := by
  funext c
  unfold Phys.touch
  simp only [hM, hN]

variable (c m) in
/-- The state after a store on the mask `F`. -/
def stored (s₀ : Phys nD τ sig Val) (r : Rect s) (w : r.shape.Idx → Val e) (F : Finset r.shape.Idx) : Phys nD τ sig Val :=
  ⟨s₀.mem.writeView c (m.access r) w F, s₀.dmas, s₀.streams, s₀.sigs, Phys.touch s₀.ops c.1 (c.2.devRef m.view.ref) F, s₀.issued⟩

/-- The state after a store of one element. -/
theorem effStep_oneStore (h : Whole m r M) (w : r.shape.Idx → Val e) (i : r.shape.Idx) (s₀ : Phys nD τ sig Val) (ω : Valuation τ sig Val) :
    effStep (Λ := Λ) c s₀ ω (oneStore h w i) = some (⟨⟩, stored c m s₀ r w {i}) := by
  have hone : (Finset.univ : Finset (one r i).shape.Idx).Nonempty := ⟨fun _ => ⟨0, Nat.one_pos⟩, Finset.mem_univ _⟩
  show some (_, Phys.mk (MemSt.write _ _ _) _ _ _ _ _) = some (_, Phys.mk (MemSt.write _ _ _) _ _ _ _ _)
  rw [touch_congr _ _ _ hone (Finset.singleton_nonempty i)]
  have := write_one (s₀.mem.mem (m.view.loc c)) w i
  rw [show (m.access (one r i)).write Val (s₀.mem.mem ((m.access (one r i)).loc c)) (fun _ => w i) Finset.univ = _ from this]
  rfl

/-- A store on one mask and then on another is a store on their union. -/
theorem stored_stored (s₀ : Phys nD τ sig Val) (w : r.shape.Idx → Val e) {F G : Finset r.shape.Idx} (hF : F.Nonempty) (hG : G.Nonempty) :
    stored c m (stored c m s₀ r w F) r w G = stored c m s₀ r w (F ∪ G) := by
  unfold stored
  congr 1
  · show MemSt.write (MemSt.write _ _ _) _ _ = MemSt.write _ _ _
    unfold MemSt.write
    congr 1
    funext ℓ
    by_cases hℓ : ℓ = (m.access r).loc c
    · subst hℓ
      simp only [MemSt.writeView, MemSt.write, Function.update_self]
      exact View.write_write_union _ _ _ _
    · simp only [Function.update_of_ne hℓ]
  · rw [touch_touch _ _ _ hF hG]
    exact touch_congr _ _ _ hF (hF.mono Finset.subset_union_left)

/-- A store of all elements is the store of those that change. -/
theorem stored_touched (h : Whole m r M) (s₀ : Phys nD τ sig Val) (w : r.shape.Idx → Val e) :
    stored c m s₀ r w (touched h w (m.view.readAt Val r.toLoadRect (s₀.mem.mem (m.view.loc c)))).toFinset
      = stored c m s₀ r w Finset.univ := by
  have hne : (touched h w (m.view.readAt Val r.toLoadRect (s₀.mem.mem (m.view.loc c)))).toFinset.Nonempty :=
    ⟨h.last, by simp [touched]⟩
  unfold stored
  rw [touch_congr _ _ _ hne (Finset.univ_nonempty_iff.mpr ⟨h.last⟩)]
  congr 1
  show MemSt.write _ _ _ = MemSt.write _ _ _
  refine congrArg _ ?_
  funext j
  by_cases hj : ∃ x, (m.access r).emb x = j
  · obtain ⟨x, rfl⟩ := hj
    rw [View.write_emb_of_mem _ _ (Finset.mem_univ _), View.write_emb]
    split
    · rfl
    · rename_i hx
      have hx' : m.view.readAt Val r.toLoadRect (s₀.mem.mem (m.view.loc c)) x = w x := by
        by_contra hne; exact hx (mem_touched h hne)
      rw [View.readAt_rect] at hx'
      rw [← hx', View.read_apply, cast_cast, cast_eq]
  · have hn : ∀ F : Finset r.shape.Idx, j ∉ (m.access r).setOn F := fun F hc => by
      obtain ⟨y, -, hy⟩ := Finset.mem_map.mp hc
      exact hj ⟨y, hy⟩
    rw [View.write_of_not_mem _ _ _ (hn _), View.write_of_not_mem _ _ _ (hn _)]

end Mem

/-! ## One agent's steps in a row -/

/-- `L + 1` steps of the agent `a` in a row, from `s` to `t`, none of them from a final state. -/
structure Path (D : Defs nD τ sig Val Λ) (a : Agent nD τ) (s t : RunSt nD τ sig Val Λ) where
  len : Nat
  st : Nat → RunSt nD τ sig Val Λ
  head : st 0 = s
  last : st (len + 1) = t
  step : ∀ j, j ≤ len → ¬ Final (st j) ∧ MeshStep D a (st j) (st (j + 1))

variable {D D' : Defs nD τ sig Val Λ} {a : Agent nD τ}

/-- A path of one step. -/
def Path.single {s t : RunSt nD τ sig Val Λ} (hn : ¬ Final s) (h : MeshStep D a s t) : Path D a s t where
  len := 0
  st := fun | 0 => s | _ + 1 => t
  head := rfl
  last := rfl
  step j hj := by obtain rfl : j = 0 := by omega
                  exact ⟨hn, h⟩

/-- One step, then a path. -/
def Path.cons {s u t : RunSt nD τ sig Val Λ} (hn : ¬ Final s) (h : MeshStep D a s u) (P : Path D a u t) : Path D a s t where
  len := P.len + 1
  st := fun | 0 => s | j + 1 => P.st j
  head := rfl
  last := P.last
  step j hj := match j with
    | 0 => by show ¬ Final s ∧ MeshStep D a s (P.st 0); rw [P.head]; exact ⟨hn, h⟩
    | j + 1 => P.step j (by omega)

/-- A path's end is reached from its start. -/
theorem Path.reaches {s t : RunSt nD τ sig Val Λ} (P : Path D a s t) : Reaches D s t := by
  have : ∀ j, j ≤ P.len + 1 → Reaches D s (P.st j) := by
    intro j
    induction j with
    | zero => intro _; rw [P.head]
    | succ j ih => intro hj; exact (ih (by omega)).tail ⟨(P.step j (by omega)).1, a, (P.step j (by omega)).2⟩
  have h := this (P.len + 1) le_rfl
  rwa [P.last] at h

/-- The effects that run a body of the table. -/
def Called {p : Proc τ} {β : Type} : TpuEff nD τ sig Val Λ p β → Prop
  | .call _ _ => True
  | .customCall _ _ => True
  | _ => False

/-- Every other effect is answered by the state. -/
theorem inner_eq {c : Thread nD τ} {β : Type} {e : TpuEff nD τ sig Val Λ c.2 β} (he : ¬ Called e) (D : Defs nD τ sig Val Λ)
    (m : RunSt nD τ sig Val Λ) (ω : Valuation τ sig Val) (k : β → Prog (TpuEff nD τ sig Val Λ c.2) PUnit) :
    coreStepInner D c m ω (.op e k) = (effStep c m.toPhys ω e).map fun r => (some (k r.1), m.withPhys r.2) := by
  cases e <;> first | rfl | exact absurd trivial he

/-- One step of a thread at an effect the machine answers. -/
theorem step_eff {c : Thread nD τ} {s : RunSt nD τ sig Val Λ} {β : Type} {e : TpuEff nD τ sig Val Λ c.2 β}
    {k : β → Prog (TpuEff nD τ sig Val Λ c.2) PUnit} {ω : Valuation τ sig Val} {x : β} {t : Phys nD τ sig Val}
    (hp : s.prog c = some (.op e k)) (h : coreStepInner D c s ω (.op e k) = some (some (k x), s.withPhys t)) :
    ¬ Final s ∧ MeshStep D (.thread c) s ((s.withPhys t).setProg c (some (k x))) := by
  have h' : coreStep D c s ω = some (some (k x), s.withPhys t) := by unfold coreStep; rw [hp]; exact h
  exact ⟨not_final_of_coreStep h', .core c ω h'⟩

section Stores
variable {c : Thread nD τ} {cs : CoreSpace} {s : Shape} {e : EltTy} {m : Memref sig c.2.kind cs s e} {r : Rect s}
  {M : Finset r.shape.Idx}

/-- Of two settings of a thread's program and of the machine's state the later counts. -/
theorem setProg_setProg (u : RunSt nD τ sig Val Λ) (x y : Phys nD τ sig Val) (q q' : Option (Prog (TpuEff nD τ sig Val Λ c.2) PUnit)) :
    (((u.withPhys x).setProg c q).withPhys y).setProg c q' = (u.withPhys y).setProg c q' := by
  unfold RunSt.setProg
  simp only [Function.update_idem]

/-- A store of one element runs no body of the table. -/
theorem not_called_oneStore (h : Whole m r M) (w : r.shape.Idx → Val e) (i : r.shape.Idx) :
    ¬ Called (oneStore (nD := nD) (Λ := Λ) h w i) := by
  unfold oneStore; exact id

/-- The single stores are taken one after the other, to the state after the store of their elements. -/
theorem storeAll_path (h : Whole m r M) (w : r.shape.Idx → Val e) (k : PUnit → Prog (TpuEff nD τ sig Val Λ c.2) PUnit)
    (i : r.shape.Idx) (l : List r.shape.Idx) (ω : Valuation τ sig Val) (u : RunSt nD τ sig Val Λ)
    (hu : u.prog c = some (storeAll h w (i :: l) >>= k)) :
    Nonempty (Path D (.thread c) u ((u.withPhys (stored c m u.toPhys r w (i :: l).toFinset)).setProg c (some (k ⟨⟩)))) := by
  induction l generalizing i u with
  | nil =>
    obtain ⟨hn, hs⟩ := step_eff (D := D) (ω := ω) hu (x := ⟨⟩) (t := stored c m u.toPhys r w {i}) (by
      rw [inner_eq (not_called_oneStore h w i), effStep_oneStore]; rfl)
    rw [show [i].toFinset = {i} by simp]
    exact ⟨.single hn hs⟩
  | cons i' l ih =>
    obtain ⟨hn, hs⟩ := step_eff (D := D) (ω := ω) hu (x := ⟨⟩) (t := stored c m u.toPhys r w {i}) (by
      rw [inner_eq (not_called_oneStore h w i), effStep_oneStore]; rfl)
    obtain ⟨P⟩ := ih i' _ (show ((u.withPhys (stored c m u.toPhys r w {i})).setProg c _).prog c = some (storeAll h w (i' :: l) >>= k) from
      Function.update_self ..)
    rw [setProg_setProg] at P
    have e1 : stored c m (stored c m u.toPhys r w {i}) r w (i' :: l).toFinset = stored c m u.toPhys r w (i :: i' :: l).toFinset := by
      rw [stored_stored _ _ (Finset.singleton_nonempty i) ⟨i', by simp⟩]
      congr 1
      ext x; simp; tauto
    rw [show ((u.withPhys (stored c m u.toPhys r w {i})).setProg c (some (storeAll h w (i' :: l) >>= k))).toPhys
      = stored c m u.toPhys r w {i} from rfl, e1] at P
    exact ⟨P.cons hn hs⟩

/-- The split store, from a state to the one after the store. -/
theorem splitStore_path (h : Whole m r M) (w : r.shape.Idx → Val e) (k : PUnit → Prog (TpuEff nD τ sig Val Λ c.2) PUnit)
    (ω : Valuation τ sig Val) (u : RunSt nD τ sig Val Λ) (hu : u.prog c = some (splitStore h w >>= k)) :
    Nonempty (Path D (.thread c) u ((u.withPhys (stored c m u.toPhys r w Finset.univ)).setProg c (some (k ⟨⟩)))) := by
  obtain ⟨hn, hs⟩ := step_eff (D := D) (ω := ω) hu (x := m.view.readAt Val r.toLoadRect (u.mem.mem (m.view.loc c))) (t := u.toPhys) rfl
  obtain ⟨P⟩ := storeAll_path (D := D) h w k h.last _ ω _ (show ((u.withPhys u.toPhys).setProg c _).prog c
    = some (storeAll h w (touched h w (m.view.readAt Val r.toLoadRect (u.mem.mem (m.view.loc c)))) >>= k) from Function.update_self ..)
  have P' := P.cons hn hs
  rw [setProg_setProg] at P'
  have e1 := stored_touched (c := c) h u.toPhys w
  rw [show (touched h w (m.view.readAt Val r.toLoadRect (u.mem.mem (m.view.loc c)))) = h.last :: _ from rfl] at e1
  exact ⟨(by rw [← e1]; exact P')⟩

end Stores

/-! ## One step of the program, matched by steps of the split one -/

/-- What a thread's step makes of the residual programs: those related go to related ones. -/
theorem RunSim.set {s t : RunSt nD τ sig Val Λ} (h : RunSim s t) (x : Phys nD τ sig Val) (c : Thread nD τ)
    {q q' : Option (Prog (TpuEff nD τ sig Val Λ c.2) PUnit)} (hq : Option.Rel (Sim c) q q') :
    RunSim ((s.withPhys x).setProg c q) ((t.withPhys x).setProg c q') where
  phys := rfl
  prog c' := by
    by_cases hc : c' = c
    · subst hc
      show Option.Rel _ (Function.update s.prog c' q c') (Function.update t.prog c' q' c')
      rw [Function.update_self, Function.update_self]; exact hq
    · show Option.Rel _ (Function.update s.prog c q c') (Function.update t.prog c q' c')
      rw [Function.update_of_ne hc, Function.update_of_ne hc]; exact h.prog c'

/-- The step a thread takes at an effect depends on the running state through the interpreted part alone, and on the body table through
the bodies called. -/
theorem coreStepInner_sim (hD : DefsSim D D') {c : Thread nD τ} {s t : RunSt nD τ sig Val Λ} (h : RunSim s t) {ω : Valuation τ sig Val} {β : Type}
    {e : TpuEff nD τ sig Val Λ c.2 β} {k k' : β → Prog (TpuEff nD τ sig Val Λ c.2) PUnit} (hk : ∀ x, Sim c (k x) (k' x))
    {q : Option (Prog (TpuEff nD τ sig Val Λ c.2) PUnit)} {u : RunSt nD τ sig Val Λ} (hs : coreStepInner D c s ω (.op e k) = some (q, u)) :
    ∃ q' x, coreStepInner D' c t ω (.op e k') = some (q', t.withPhys x) ∧ Option.Rel (Sim c) q q' ∧ u = s.withPhys x := by
  have hp := h.phys
  by_cases he : Called e
  · cases e with
    | call ℓ a =>
      cases hs
      exact ⟨_, t.toPhys, rfl, .some ((hD c ℓ a).bind hk), by rw [← hp]⟩
    | customCall ℓ a =>
      cases hs
      refine ⟨_, s.toPhys.forget c ω, ?_, .some ((hD c ℓ a).bind fun x => .op _ fun _ => hk x), rfl⟩
      rw [hp]; rfl
    | _ => exact False.elim he
  · rw [inner_eq he] at hs
    obtain ⟨⟨x, y⟩, hxy, hr⟩ := Option.map_eq_some_iff.mp hs
    cases hr
    rw [hp] at hxy
    exact ⟨some (k' x), y, by rw [inner_eq he, hxy]; rfl, .some (hk x), rfl⟩

/-- Every step of the program is matched by steps of the same agent of the split one. -/
theorem step_sim (hD : DefsSim D D') {s t s' : RunSt nD τ sig Val Λ} (h : RunSim s t) (hn : ¬ Final s) (hs : MeshStep D a s s') :
    ∃ t', Nonempty (Path D' a t t') ∧ RunSim s' t' := by
  have hn' : ¬ Final t := fun hf => hn (h.final_iff.mpr hf)
  have hp := h.phys
  cases hs with
  | core c ω hc =>
    rename_i p' m'
    unfold coreStep at hc
    obtain ⟨q, hq, hc⟩ := Option.bind_eq_some_iff.mp hc
    have hrel := h.prog c
    rw [hq] at hrel
    generalize hq' : t.prog c = qt at hrel
    cases hrel with
    | some hrel =>
      cases hrel with
      | ret x =>
        cases hc
        refine ⟨t.setProg c none, ⟨.single hn' (.core c ω (by unfold coreStep; rw [hq']; rfl))⟩, ?_⟩
        have := h.set s.toPhys c (q := none) (q' := none) .none
        rw [show t.withPhys s.toPhys = t by rw [hp]] at this
        exact this
      | op e hk =>
        obtain ⟨r, x, hx, hr, rfl⟩ := coreStepInner_sim hD h hk hc
        exact ⟨_, ⟨.single hn' (.core c ω (by unfold coreStep; rw [hq']; exact hx))⟩, h.set x c hr⟩
      | store m r w M hs hm hw hk =>
        have hM := hw.all
        subst hM
        obtain ⟨P⟩ := splitStore_path (D := D') hw w _ ω t hq'
        cases hc
        have := h.set (stored c m t.toPhys r w Finset.univ) c (.some (hk ⟨⟩))
        refine ⟨_, ⟨P⟩, ?_⟩
        rw [← hp] at this ⊢
        exact this
  | dmaRead i M alt h1 h2 => rw [hp] at h1; exact ⟨_, ⟨.single hn' (.dmaRead i M alt h1 h2)⟩, congrArg (Phys.dmaRead · i _ M alt) hp, h.prog⟩
  | dmaWrite i M h1 h2 => rw [hp] at h1; exact ⟨_, ⟨.single hn' (.dmaWrite i M h1 h2)⟩, congrArg (Phys.dmaWrite · i _ M) hp, h.prog⟩
  | dmaPaySrc i k h1 h2 => rw [hp] at h1; exact ⟨_, ⟨.single hn' (.dmaPaySrc i k h1 h2)⟩, congrArg (Phys.dmaPaySrc · i _ k) hp, h.prog⟩
  | dmaPayDst i k h1 h2 => rw [hp] at h1; exact ⟨_, ⟨.single hn' (.dmaPayDst i k h1 h2)⟩, congrArg (Phys.dmaPayDst · i _ k) hp, h.prog⟩
  | dmaRetire i h1 h2 => rw [hp] at h1; exact ⟨_, ⟨.single hn' (.dmaRetire i h1 h2)⟩, congrArg (Phys.dmaRetire · i) hp, h.prog⟩
  | serve i k alt h1 h2 => rw [hp] at h1; exact ⟨_, ⟨.single hn' (.serve i k alt h1 h2)⟩, congrArg (Phys.serve · i _ k alt) hp, h.prog⟩
  | deliver i h1 => rw [hp] at h1; exact ⟨_, ⟨.single hn' (.deliver i h1)⟩, congrArg (Phys.deliver · i _) hp, h.prog⟩

/-- An agent that can step in the split program can step in the program. -/
theorem enabled_back (hD : DefsSim D D') {s t : RunSt nD τ sig Val Λ} (h : RunSim s t) (he : Enabled D' a t) : Enabled D a s := by
  obtain ⟨t', hs⟩ := he
  have hp := h.phys
  cases hs with
  | core c ω hc =>
    rename_i p' m'
    unfold coreStep at hc
    obtain ⟨q', hq', hc⟩ := Option.bind_eq_some_iff.mp hc
    have hrel := h.prog c
    rw [hq'] at hrel
    generalize hq : s.prog c = qs at hrel
    cases hrel with
    | some hrel =>
      cases hrel with
      | ret x => exact ⟨_, .core c ω (by unfold coreStep; rw [hq]; rfl)⟩
      | @op β e k k' hk =>
        have : ∃ x, coreStepInner D c s ω (.op e k) = some x := by
          by_cases he : Called e
          · cases e with
            | call ℓ a => exact ⟨_, rfl⟩
            | customCall ℓ a => exact ⟨_, rfl⟩
            | _ => exact False.elim he
          · rw [inner_eq he] at hc ⊢
            obtain ⟨⟨x, y⟩, hxy, -⟩ := Option.map_eq_some_iff.mp hc
            rw [← hp] at hxy
            exact ⟨_, by rw [hxy]; rfl⟩
        obtain ⟨⟨x, y⟩, hx⟩ := this
        exact ⟨_, .core c ω (by unfold coreStep; rw [hq]; exact hx)⟩
      | store m r w M hs hm hw hk => exact ⟨_, .core c ω (by unfold coreStep; rw [hq]; rfl)⟩
  | dmaRead i M alt h1 h2 => rw [← hp] at h1; exact ⟨_, .dmaRead i M alt h1 h2⟩
  | dmaWrite i M h1 h2 => rw [← hp] at h1; exact ⟨_, .dmaWrite i M h1 h2⟩
  | dmaPaySrc i k h1 h2 => rw [← hp] at h1; exact ⟨_, .dmaPaySrc i k h1 h2⟩
  | dmaPayDst i k h1 h2 => rw [← hp] at h1; exact ⟨_, .dmaPayDst i k h1 h2⟩
  | dmaRetire i h1 h2 => rw [← hp] at h1; exact ⟨_, .dmaRetire i h1 h2⟩
  | serve i k alt h1 h2 => rw [← hp] at h1; exact ⟨_, .serve i k alt h1 h2⟩
  | deliver i h1 => rw [← hp] at h1; exact ⟨_, .deliver i h1⟩

/-! ## Whole runs -/

/-- What a program reaches, the related program reaches up to the relation. -/
theorem reaches_sim (hD : DefsSim D D') {s t s' : RunSt nD τ sig Val Λ} (h : RunSim s t) (hr : Reaches D s s') :
    ∃ t', Reaches D' t t' ∧ RunSim s' t' := by
  unfold Reaches at hr
  induction hr with
  | refl => exact ⟨t, .refl, h⟩
  | tail _ hst ih =>
    obtain ⟨u, hu, hsim⟩ := ih
    obtain ⟨hn, a, hst⟩ := hst
    obtain ⟨t', ⟨P⟩, ht'⟩ := step_sim hD hsim hn hst
    exact ⟨t', Relation.ReflTransGen.trans hu P.reaches, ht'⟩

section Infinite
variable {s t : RunSt nD τ sig Val Λ}

/-- The states of the split run at which the steps of the program's run begin. -/
noncomputable def marks (hD : DefsSim D D') (h : RunSim s t) (ρ : InfRun D s) : (n : Nat) → {t' : RunSt nD τ sig Val Λ // RunSim (ρ.st n) t'}
  | 0 => ⟨t, by rw [ρ.head]; exact h⟩
  | n + 1 => ⟨Classical.choose (step_sim hD (marks hD h ρ n).2 (ρ.step n).1 (ρ.step n).2),
      (Classical.choose_spec (step_sim hD (marks hD h ρ n).2 (ρ.step n).1 (ρ.step n).2)).2⟩

/-- The steps that match the `n`-th step. -/
noncomputable def leg (hD : DefsSim D D') (h : RunSim s t) (ρ : InfRun D s) (n : Nat) :
    Path D' (ρ.ag n) (marks hD h ρ n).1 (marks hD h ρ (n + 1)).1 :=
  Classical.choice (Classical.choose_spec (step_sim hD (marks hD h ρ n).2 (ρ.step n).1 (ρ.step n).2)).1

/-- Legs of lengths `len n + 1` laid end to end: the leg, and the place in it, of each step. -/
def place (len : Nat → Nat) : Nat → Nat × Nat
  | 0 => (0, 0)
  | k + 1 => if (place len k).2 < len (place len k).1 then ((place len k).1, (place len k).2 + 1) else ((place len k).1 + 1, 0)

/-- The place in a leg is within the leg. -/
theorem place_le (len : Nat → Nat) (k : Nat) : (place len k).2 ≤ len (place len k).1 := by
  cases k with
  | zero => exact Nat.zero_le _
  | succ k => simp only [place]; split <;> simp <;> omega

/-- Later steps are in the same leg or a later one. -/
theorem place_mono (len : Nat → Nat) {k l : Nat} (h : k ≤ l) : (place len k).1 ≤ (place len l).1 := by
  induction h with
  | refl => exact le_rfl
  | step _ ih => refine ih.trans ?_; simp only [place]; split <;> simp

/-- From a leg's start its steps follow one another. -/
theorem place_run (len : Nat → Nat) {k n : Nat} (h : place len k = (n, 0)) : ∀ j, j ≤ len n → place len (k + j) = (n, j)
  | 0, _ => h
  | j + 1, hj => by
    show place len (k + j + 1) = _
    have := place_run len h j (by omega)
    simp only [place, this]; rw [if_pos (by omega)]

/-- Every leg has a start. -/
theorem place_start (len : Nat → Nat) (n : Nat) : ∃ k, place len k = (n, 0) := by
  induction n with
  | zero => exact ⟨0, rfl⟩
  | succ n ih =>
    obtain ⟨k, hk⟩ := ih
    refine ⟨k + len n + 1, ?_⟩
    simp only [place, place_run len hk (len n) le_rfl]
    rw [if_neg (by omega)]

/-- The split run. -/
noncomputable def stretched (hD : DefsSim D D') (h : RunSim s t) (ρ : InfRun D s) : InfRun D' t where
  st k := (leg hD h ρ (place (fun n => (leg hD h ρ n).len) k).1).st (place (fun n => (leg hD h ρ n).len) k).2
  ag k := ρ.ag (place (fun n => (leg hD h ρ n).len) k).1
  head := (leg hD h ρ 0).head
  step k := by
    have hle := place_le (fun n => (leg hD h ρ n).len) k
    have hst := (leg hD h ρ (place (fun n => (leg hD h ρ n).len) k).1).step _ hle
    refine ⟨hst.1, ?_⟩
    by_cases hlt : (place (fun n => (leg hD h ρ n).len) k).2 < (leg hD h ρ (place (fun n => (leg hD h ρ n).len) k).1).len
    · rw [show place (fun n => (leg hD h ρ n).len) (k + 1)
        = ((place (fun n => (leg hD h ρ n).len) k).1, (place (fun n => (leg hD h ρ n).len) k).2 + 1) from if_pos hlt]
      exact hst.2
    · rw [show place (fun n => (leg hD h ρ n).len) (k + 1) = ((place (fun n => (leg hD h ρ n).len) k).1 + 1, 0) from if_neg hlt]
      have heq : (place (fun n => (leg hD h ρ n).len) k).2 = (leg hD h ρ (place (fun n => (leg hD h ρ n).len) k).1).len := by omega
      have h2 := hst.2
      rw [heq, Path.last] at h2
      rw [Path.head, heq]
      exact h2

/-- The split run is fair if the run is. -/
theorem stretched_weaklyFair (hD : DefsSim D D') (h : RunSim s t) {ρ : InfRun D s} (hρ : ρ.WeaklyFair) :
    (stretched hD h ρ).WeaklyFair := by
  intro a n hen
  set len := fun n => (leg hD h ρ n).len with hlen
  have key : ∀ m, (place len n).1 + 1 ≤ m → ∃ k, n ≤ k ∧ place len k = (m, 0) := fun m hm => by
    obtain ⟨k, hk⟩ := place_start len m
    refine ⟨k, ?_, hk⟩
    by_contra hlt
    have := place_mono len (show k ≤ n by omega)
    rw [hk] at this
    simp at this; omega
  obtain ⟨m, hm, ha⟩ := hρ a ((place len n).1 + 1) fun m hm => by
    obtain ⟨k, hnk, hk⟩ := key m hm
    have he := hen k hnk
    have : (stretched hD h ρ).st k = (marks hD h ρ m).1 := by
      show (leg hD h ρ (place len k).1).st (place len k).2 = _
      rw [hk]; exact (leg hD h ρ m).head
    rw [this] at he
    exact enabled_back hD (marks hD h ρ m).2 he
  obtain ⟨k, hnk, hk⟩ := key m hm
  exact ⟨k, hnk, by show ρ.ag (place len k).1 = a; rw [hk]; exact ha⟩

end Infinite

/-- What every fair run of the split program meets, every fair run of the program meets. -/
theorem θ_run_of_split (hD : DefsSim D D') {p p' : (c : Thread nD τ) → Prog (TpuEff nD τ sig Val Λ c.2) PUnit}
    (hp : ∀ c, Sim c (p c) (p' c)) (m : MemSt nD τ sig Val) {Q : PUnit × MemSt nD τ sig Val → Prop} (h : θ_run D' p' m Q) :
    θ_run D p m Q := by
  have h0 : RunSim (load p m) (load p' m) := ⟨rfl, fun c => .some (hp c)⟩
  have h' : MeshRun D' (fun m' => Q (⟨⟩, m')) (load p' m) := h
  exact {
    post := fun s hs hf => by
      obtain ⟨t, ht, hrel⟩ := reaches_sim hD h0 hs
      have := h'.post t ht (hrel.final_iff.mp hf)
      rw [← hrel.phys] at this
      exact this
    progress := fun s hs hn => by
      obtain ⟨t, ht, hrel⟩ := reaches_sim hD h0 hs
      obtain ⟨a, u, hu⟩ := h'.progress t ht fun hf => hn (hrel.final_iff.mpr hf)
      obtain ⟨v, hv⟩ := enabled_back hD hrel ⟨u, hu⟩
      exact ⟨a, v, hv⟩
    fair := fun ρ hρ => h'.fair (stretched hD h0 ρ) (stretched_weaklyFair hD h0 hρ) }

end Cert.Proof.Split
end
-- ==== Proof.Table.lean ====
/-
  The kernel's body table with the vector subcores' task taken apart (`Split.split`): the histogram's scatters become loads and
  single stores, everything else stays. `run_of_split` carries a run of that table over to the kernel's own.
-/
module

public import proofs.«01_k».proof.Defs
public import proofs.«01_k».proof.Proof.Split
public import proofs.«01_k».proof.Proof.Gen.KernelIdeal
public import proofs.«01_k».proof.Proof.Gen.KernelIdeal.Skeleton

@[expose] public section

noncomputable section

namespace Cert.Proof.Split
open Idealize.SL.Sem Idealize.ShloMosaic

variable {nD : Nat} {τ : Topo} {sig : RefSig} {Val : EltTy → Type} {Λ Λ' : Labels}

/-- Programs over a larger set of labels: one after another. -/
theorem inlProg_bind {p : Proc τ} {α β : Type} (q : Prog (TpuEff nD τ sig Val Λ p) α) (k : α → Prog (TpuEff nD τ sig Val Λ p) β) :
    TpuEff.inlProg (Λ' := Λ') (q >>= k) = TpuEff.inlProg q >>= fun x => TpuEff.inlProg (k x) := by
  induction q with
  | ret a => rfl
  | op e c ih => exact congrArg (Prog.op e.inl) (funext ih)

/-- Programs over a larger set of labels: single stores. -/
theorem inlProg_storeAll {p : Proc τ} {cs : CoreSpace} {s : Shape} {e : EltTy} {m : Memref sig p.kind cs s e} {r : Rect s}
    {M : Finset r.shape.Idx} (h : Whole m r M) (w : r.shape.Idx → Val e) (l : List r.shape.Idx) :
    TpuEff.inlProg (Λ' := Λ') (storeAll (nD := nD) (Λ := Λ) h w l) = storeAll h w l := by
  induction l with
  | nil => rfl
  | cons i l ih => exact congrArg (Prog.op _) (funext fun _ => ih)

/-- Programs over a larger set of labels: a split store. -/
theorem inlProg_splitStore {p : Proc τ} {cs : CoreSpace} {s : Shape} {e : EltTy} {m : Memref sig p.kind cs s e} {r : Rect s}
    {M : Finset r.shape.Idx} (h : Whole m r M) (w : r.shape.Idx → Val e) :
    TpuEff.inlProg (Λ' := Λ') (splitStore (nD := nD) (Λ := Λ) h w) = splitStore h w :=
  congrArg (Prog.op _) (funext fun _ => inlProg_storeAll h w _)

/-- Related programs are related over a larger set of labels. -/
theorem Sim.inl {c : Thread nD τ} {α : Type} {q q' : Prog (TpuEff nD τ sig Val Λ c.2) α} (h : Sim c q q') :
    Sim c (TpuEff.inlProg (Λ' := Λ') q) (TpuEff.inlProg q') := by
  induction h with
  | ret a => exact .ret a
  | op e _ ih => exact .op e.inl ih
  | store m r w M hs hm h _ ih =>
    rw [inlProg_bind, inlProg_splitStore]
    exact .store m r w M hs hm h ih

end Cert.Proof.Split

namespace Cert.Proof.KI
open Idealize.ShloMosaic Idealize.SL.Sem
open Cert.KernelIdeal Cert.KernelIdeal.Gen
open Cert.Proof.Split

variable {F : FTy → Type} [FloatOps F]

/-- The kernels' table with each vector subcore's task taken apart. -/
def defs₁ : Defs nD τ sig (Elt F) Λ₀
  | .scVector c s, ℓ, a => split (defs₀ (F := F) (.scVector c s) ℓ a)
  | .tc, ℓ, a => defs₀ (F := F) .tc ℓ a
  | .scScalar c, ℓ, a => defs₀ (F := F) (.scScalar c) ℓ a

/-- The kernels' table is related to the one taken apart. -/
theorem sim₁ : DefsSim (defs₀ (F := F)) defs₁ := by
  rintro ⟨d, _ | c | ⟨c, s⟩⟩ ℓ a
  · exact .refl _
  · exact .refl _
  · exact .split _

/-- So are the two with the pipeline's labels. -/
theorem simPipe : DefsSim (Pipeline.defs pcfgs (defs₀ (F := F))) (Pipeline.defs pcfgs defs₁) := by
  rintro ⟨d, p⟩ (ℓ | ℓ) a
  · exact (sim₁ (d, p) ℓ a).inl
  · rcases p with _ | c | ⟨c, s⟩ <;> rcases ℓ with p | p <;> exact .refl _

/-- The program's body table with the tasks taken apart. -/
def defsS : Defs nD τ sig (Elt F) (SparseCore.Sig (Pipeline.Sig Λ₀ (Fin 1) fun p => (pcfgs (F := F) p).Adm) 1) :=
  sc.defs (Pipeline.defs pcfgs defs₁)

/-- So are the two with the launch's labels. -/
theorem simS : DefsSim (defs (F := F)) defsS := by
  rintro ⟨d, p⟩ (ℓ | ℓ) a
  · exact (simPipe (d, p) ℓ a).inl
  · rcases p with _ | c | ⟨c, s⟩ <;> exact .refl _

/-- A run of the table with the tasks taken apart is a run of the program's. -/
theorem run_of_split (m : MemSt nD τ sig (Elt F)) {Q : PUnit × MemSt nD τ sig (Elt F) → Prop}
    (h : θ_run (defsS (F := F)) (threads (F := F)) m Q) : θ_run (defs (F := F)) (threads (F := F)) m Q :=
  θ_run_of_split simS (fun _ => .refl _) m h

end Cert.Proof.KI
end
-- ==== Proof.Counts.lean ====
/-
  What one task of the SparseCore kernel computes, over any carrier: the histogram of its 1600 words, 50 to a row, 32 rows of
  1024 counters, one word after the other (`acc`). A scatter-add of a group of sixteen lanes is sixteen (or, masked, two) of its
  steps (`storeIdx_acc`), and a row's counters are final once its fifty words are in (`acc_stable`).
-/
module

public import proofs.«01_k».proof.Proof.Table

@[expose] public section

noncomputable section

namespace Cert.Proof.KI
open Idealize.ShloMosaic Idealize.SL.Sem
open Cert.KernelIdeal Cert.KernelIdeal.Gen

variable {F : FTy → Type} [FloatOps F]

/-- A task's counters. -/
abbrev Cnt (F : FTy → Type) : Type := S32768.Idx → Elt F .f32

/-- The zero and the one the kernel writes. -/
def zero : Elt F .f32 := Scalar.ofBits (F := F) .f32 0x00000000#32
/-- The float 1, as it is added to a counter. -/
def one : Elt F .f32 := Scalar.ofBits (F := F) .f32 0x3F800000#32

/-- One added to counter `n`. -/
def bump (f : Cnt F) (n : ℕ) : Cnt F := fun j => if (j 0).val = n then Elt.idxAdd .f32 (f j) one else f j

/-- The counters after the first `n` words: word `k` is counted in row `k / 50`, column `w k`. -/
def acc (w : ℕ → ℕ) : ℕ → Cnt F
  | 0 => fun _ => zero
  | n + 1 => bump (acc w n) (1024 * (n / 50) + w n)

/-- One more word counted. -/
theorem acc_succ (w : ℕ → ℕ) (n : ℕ) : acc (F := F) w (n + 1) = bump (acc w n) (1024 * (n / 50) + w n) := rfl

/-- A counter that no word from the `m`-th on names is as it was after `m`. -/
theorem acc_same (w : ℕ → ℕ) {m n : ℕ} (hmn : m ≤ n) (j : S32768.Idx)
    (h : ∀ k, m ≤ k → k < n → (j 0).val ≠ 1024 * (k / 50) + w k) : acc (F := F) w n j = acc w m j := by
  induction n, hmn using Nat.le_induction with
  | base => rfl
  | succ n hn ih =>
    rw [acc_succ, bump, if_neg (h n hn (by omega))]
    exact ih fun k h1 h2 => h k h1 (by omega)

/-- The counters of the rows before row `r` are final after `50 r` words. -/
theorem acc_stable (w : ℕ → ℕ) {r n : ℕ} (hn : 50 * r ≤ n) (j : S32768.Idx) (hj : (j 0).val < 1024 * r) :
    acc (F := F) w n j = acc w (50 * r) j := by
  refine acc_same w hn j fun k h1 _ hc => ?_
  have : r ≤ k / 50 := by omega
  have : 1024 * r ≤ 1024 * (k / 50) := Nat.mul_le_mul_left _ this
  omega

/-- The counters from row `r` on are untouched by the first `50 r` words. -/
theorem acc_below (w : ℕ → ℕ) (hw : ∀ k, w k < 1024) {r m n : ℕ} (hmn : m ≤ n) (hn : n ≤ 50 * r) (j : S32768.Idx) (hj : 1024 * r ≤ (j 0).val) :
    acc (F := F) w n j = acc w m j := by
  refine acc_same w hmn j fun k _ h2 hc => ?_
  have := hw k
  have : k / 50 < r := by omega
  have : 1024 * (k / 50) + 1024 ≤ 1024 * r := by omega
  omega

/-- A fold over the numbers below `n` whose steps lead from `v k` to `v (k + 1)` leads from `v 0` to `v n`. -/
theorem foldl_finRange {α : Type} {n : ℕ} (st : α → Fin n → α) (v : ℕ → α) (h : ∀ k : Fin n, st (v k) k = v (k + 1)) :
    (List.finRange n).foldl st (v 0) = v n := by
  induction n with
  | zero => simp
  | succ n ih =>
    rw [List.finRange_succ_last, List.foldl_append, List.foldl_map, ih (fun a k => st a k.castSucc) fun k => h k.castSucc]
    exact h (Fin.last n)

/-- A scatter-add of ones, lanes from `l₀` on, is the steps of the words those lanes hold. -/
theorem storeIdx_acc (w : ℕ → ℕ) (n₀ l₀ : ℕ) (hl : l₀ ≤ 16) (p : IVec S16 32) (mask : IVec S16 1)
    (h : ∀ a x, ((![p] : Fin 1 → IVec S16 32) a x).toNat < S32768.size a)
    (hm : ∀ x : S16.Idx, mask x = 1 ↔ l₀ ≤ (x 0).val)
    (hp : ∀ x : S16.Idx, l₀ ≤ (x 0).val → (p x).toNat = 1024 * ((n₀ + (x 0).val) / 50) + w (n₀ + (x 0).val)) :
    storeIdx (F := F) (acc w (n₀ + l₀)) ![p] k0_pay2 mask true h = acc w (n₀ + 16) := by
  have := foldl_finRange (n := 16) (fun (g : Cnt F) (k : Fin 16) =>
      let x : S16.Idx := Shape.ofLane (d := ![16]) k
      if mask x = 1 then
        let i := idxAt (s := S32768) ![p] h x
        let y := if true then Elt.idxAdd .f32 (g i) (k0_pay2 (F := F) x) else k0_pay2 (F := F) x
        fun j => if (∀ a, (j a).val = (i a).val) then y else g j
      else g) (fun k => acc w (n₀ + max l₀ k)) (fun k => by
        have hx : ((Shape.ofLane (d := ![16]) k : S16.Idx) 0).val = k.val := rfl
        by_cases hk : l₀ ≤ k.val
        · have h1 : mask (Shape.ofLane (d := ![16]) k : S16.Idx) = 1 := (hm _).mpr (by rw [hx]; exact hk)
          have h2 := hp (Shape.ofLane (d := ![16]) k : S16.Idx) (by rw [hx]; exact hk)
          rw [hx] at h2
          simp only [h1, if_true]
          rw [show n₀ + max l₀ (k.val + 1) = n₀ + k.val + 1 by omega, show n₀ + max l₀ k.val = n₀ + k.val by omega, acc_succ]
          funext j
          have hi : ((idxAt (s := S32768) ![p] h (Shape.ofLane (d := ![16]) k : S16.Idx)) 0).val
              = 1024 * ((n₀ + k.val) / 50) + w (n₀ + k.val) := h2
          by_cases hj : (j 0).val = 1024 * ((n₀ + k.val) / 50) + w (n₀ + k.val)
          · have hji : j = idxAt (s := S32768) ![p] h (Shape.ofLane (d := ![16]) k : S16.Idx) := by
              funext a; obtain rfl := Fin.eq_zero a; exact Fin.ext (hj.trans hi.symm)
            rw [if_pos (by rw [← hji]; exact fun _ => rfl), ← hji, bump, if_pos hj]
            rfl
          · rw [if_neg (fun hc => hj ((hc 0).trans hi)), bump, if_neg hj]
        · have h1 : ¬ mask (Shape.ofLane (d := ![16]) k : S16.Idx) = 1 := fun hc => hk (by have := (hm _).mp hc; rwa [hx] at this)
          simp only [h1, if_false]
          rw [show max l₀ (k.val + 1) = max l₀ k.val by omega])
  rw [show max l₀ 0 = l₀ by omega, show max l₀ 16 = 16 by omega] at this
  refine Eq.trans ?_ this
  unfold storeIdx
  refine congrArg (fun st => List.foldl st (acc (F := F) w (n₀ + l₀)) (List.finRange 16)) (funext fun g => funext fun k => ?_)
  dsimp only
  split <;> [(funext j; congr); rfl]

/-- The lanes the last group of a row counts. -/
theorem mask_iff (x : S16.Idx) : k0_pay3 x = 1 ↔ 14 ≤ (x 0).val := by
  have : ∀ k : Fin 16, (k0_pay3 (fun a => ⟨k.val, by rw [Fin.eq_zero a]; exact k.isLt⟩ : S16.Idx) = 1 ↔ 14 ≤ k.val) := by decide +kernel
  have h := this (x 0)
  rwa [show (fun a => ⟨(x 0).val, _⟩ : S16.Idx) = x from by funext a; obtain rfl := Fin.eq_zero a; rfl] at h

end Cert.Proof.KI
end
-- ==== Proof.Setup.lean ====
/-
  The launch's set-up: the handshakes' configuration, the body table, the resource algebra (the handshakes' rounds, the
  TensorCore pipeline's rounds, the local copies' counters).
-/
module

public import proofs.«01_k».proof.Proof.Counts
public import proofs.«01_k».proof.Proof.Gen.KernelIdeal.Launch
public import proofs.«01_k».proof.Proof.Gen.KernelIdeal.Points
public import Idealize.ShloMosaic.Lib.SparseCore.Quiescent
public import Idealize.ShloMosaic.Lib.StableHlo.Run
public import Idealize.ShloMosaic.Lib.Tactic

@[expose] public section

noncomputable section

namespace Cert.Proof.KI
open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
abbrev 𝒱₀ : Variants := Variants.none
abbrev 𝒱 : Variants := 𝒱₀.lift
abbrev v₀ : 𝒱.V := Sum.inl none

section
variable [FloatOps F]
abbrev D : Defs nD τ sig (Elt F) (ΛP (F := F)) := Pipeline.defs pcfgs defs₁
end

/-- The call runs on sixteen subcores of each SparseCore. -/
theorem nSub_zero : (K (F := F)).nSub 0 = 16 := rfl

/-- The handshakes' semaphores and the SparseCores' buffers are as the launch asks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds; beside them the pipeline's, and the local copies' counters. -/
abbrev UH : Type := URounds (GSem nD τ sig) ℕ
abbrev UP : Type := URounds (GSem nD τ sig) Unit
abbrev UU : Type := UH × (UP × Counters)

abbrev EH : Emb UH (MT nD τ sig (HIx 1) (Elt F) ℕ UU ℕ) := embL
abbrev EP : Emb UP (MT nD τ sig (HIx 1) (Elt F) ℕ UU ℕ) := (Emb.inl : Emb UP (UP × Counters)).trans embR

end Cert.Proof.KI
end
-- ==== Proof.Scatter.lean ====
/-
  A task's counters between the write-outs: all of them readable, those of the quarters not yet sent writable (`held2`). A scatter
  taken apart stores only into the latter, so it runs in that state (`wp_scatter`).
-/
module

public import proofs.«01_k».proof.Proof.Setup

@[expose] public section

noncomputable section

namespace Cert.Proof.KI
open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Split (Whole storeAll splitStore touched split split_bind)

variable {F : FTy → Type}

local notation "𝕄" => MT nD τ sig (HIx 1) (Elt F) ℕ UU ℕ

section
variable (d : Dev nD) (c : Fin τ.nSC) (j : Fin τ.nSub)

/-- The counters' buffer. -/
abbrev cM : Memref sig .scVector .vmem S32768 .f32 := Memref.whole cc0_scratch1
/-- Where a task's counters are. -/
abbrev cLoc : Loc nD τ sig := (V d c j).loc cc0_scratch1

/-- All the counters at half a share, those of `X` at the other half. -/
def held2 (X : Finset S32768.Idx) (f : Cnt F) : sProp 𝕄 :=
  iprop((cLoc d c j ↦{fullShare.left} f) ∗ cLoc d c j ↦[X]{fullShare.right} f)

/-- One element replaced. -/
def put (g : Cnt F) (w : Cnt F) (i : S32768.Idx) : Cnt F := fun k => if k = i then w k else g k

include d c j in
/-- A store of one element puts that element. -/
theorem write_put (g w : Cnt F) (i : S32768.Idx) :
    (cM.access (Split.one (Rect.whole S32768) i)).write (Elt F) g (fun _ => w i) Finset.univ = put g w i := by
  refine (Split.write_one (c := V d c j) (m := cM) (r := Rect.whole S32768) g w i).trans ?_
  funext k
  have hk : (cM.access (Rect.whole S32768)).emb k = k := by
    show (Rect.whole S32768).emb k = k
    exact Rect.emb_whole_apply _ _
  by_cases h : k = i
  · subst h
    rw [put, if_pos rfl]
    have := View.write_emb_of_mem (v := cM.access (Rect.whole S32768)) (Val := Elt F) g w (M := {k}) (x := k) (Finset.mem_singleton_self _)
    rwa [hk] at this
  · rw [put, if_neg h, View.write_of_not_mem]
    intro hc
    obtain ⟨y, hy, hyk⟩ := Finset.mem_map.mp hc
    rw [Finset.mem_singleton.mp hy] at hyk
    exact h (hyk.symm.trans (Rect.emb_whole_apply _ _))

variable [FloatOps F]

/-- One element taken out of both halves, held whole. -/
theorem held2_take (X : Finset S32768.Idx) (f : Cnt F) {i : S32768.Idx} (hi : i ∈ X) :
    held2 d c j X f ⊣⊢ iprop((cLoc d c j ↦[{i}]{fullShare} f) ∗ (cLoc d c j ↦[Finset.univ \ {i}]{fullShare.left} f)
      ∗ cLoc d c j ↦[X \ {i}]{fullShare.right} f) := by
  have h1 := pointsTo_split_subset (nD := nD) (τ := τ) (sig := sig) (Ix := HIx 1) (Val := Elt F) (Name := ℕ) (U := UU) (Lvl := ℕ)
    (ℓ := cLoc d c j) (q := fullShare.left) (f := f) (I := {i}) (S := Finset.univ) (Finset.subset_univ _)
  have h2 := pointsTo_split_subset (nD := nD) (τ := τ) (sig := sig) (Ix := HIx 1) (Val := Elt F) (Name := ℕ) (U := UU) (Lvl := ℕ)
    (ℓ := cLoc d c j) (q := fullShare.right) (f := f) (I := {i}) (S := X) (Finset.singleton_subset_iff.mpr hi)
  have h3 := pointsTo_share (nD := nD) (τ := τ) (sig := sig) (Ix := HIx 1) (Val := Elt F) (Name := ℕ) (U := UU) (Lvl := ℕ)
    (ℓ := cLoc d c j) (f := f) (I := {i}) (PosShare.mem_left_op_right fullShare)
  unfold held2
  constructor
  · iintro ⟨Ha, Hb⟩
    ihave Ha := h1.1 $$ Ha
    ihave Hb := h2.1 $$ Hb
    icases Ha with ⟨Ha1, Ha2⟩
    icases Hb with ⟨Hb1, Hb2⟩
    isplitl [Ha1 Hb1]
    · iapply h3.2 $$ [Ha1 Hb1]
      isplitl [Ha1]
      · iexact Ha1
      · iexact Hb1
    isplitl [Ha2]
    · iexact Ha2
    · iexact Hb2
  · iintro ⟨H, Ha, Hb⟩
    ihave H := h3.1 $$ H
    icases H with ⟨H1, H2⟩
    isplitl [H1 Ha]
    · iapply h1.2 $$ [H1 Ha]
      isplitl [H1]
      · iexact H1
      · iexact Ha
    · iapply h2.2 $$ [H2 Hb]
      isplitl [H2]
      · iexact H2
      · iexact Hb

/-- The store of one counter of a quarter not yet sent. -/
theorem wp_one {α : Type} {Q : α → sProp 𝕄} (h : Whole (p := (V d c j).2) cM (Rect.whole S32768) Finset.univ) (X : Finset S32768.Idx) (w f : Cnt F)
    {i : S32768.Idx} (hi : i ∈ X) (k : PUnit → Prog (TpuEff nD τ sig (Elt F) Λ₀ (V d c j).2) α) :
    held2 d c j X f ⊢ iprop((held2 d c j X (put f w i) -∗ wp frame (wpE defs₁ 𝒱₀ (V d c j) none) Set.univ (k ⟨⟩) Q)
      -∗ wp frame (wpE defs₁ 𝒱₀ (V d c j) none) Set.univ (.op (Split.oneStore h w i) k) Q) := by
  iintro H Hk
  ihave H := (held2_take d c j X f hi).1 $$ H
  icases H with ⟨H, Ha, Hb⟩
  iapply (wp_store (defs := defs₁ (F := F)) 𝒱₀ (V d c j) none Set.univ (Q := Q) (m := cM) (r := Split.one (Rect.whole S32768) i) (Mk := Finset.univ)
    (hx := h.stores i) (hm := .inl rfl) (k := k) (f := f) (S := {i}) (by
      intro y hy
      obtain ⟨z, -, hz⟩ := Finset.mem_map.mp hy
      have h1 : (Rect.whole S32768).emb i = y := by
        have h2 : (Split.one (Rect.whole S32768) i).emb z = y := hz
        rwa [Split.one_emb] at h2
      exact Finset.mem_singleton.mpr (h1.symm.trans (Rect.emb_whole_apply _ _)))) $$ H
  iintro H
  iapply Hk
  iapply (held2_take d c j X (put f w i) hi).2 $$ [H Ha Hb]
  rw [← write_put d c j]
  isplitl [H]
  · iexact H
  have hne : ∀ (Y : Finset S32768.Idx), ∀ k ∈ Y \ {i}, f k = (cM.access (Split.one (Rect.whole S32768) i)).write (Elt F) f (fun _ => w i) Finset.univ k := by
    intro Y k hk
    rw [write_put d c j, put, if_neg (fun hc => (Finset.mem_sdiff.mp hk).2 (Finset.mem_singleton.mpr hc))]
  isplitl [Ha]
  · rw [pointsTo_congr (hne Finset.univ)]; exact .rfl
  · rw [pointsTo_congr (hne X)]; exact .rfl

/-- A list of elements replaced. -/
def putAll (w : Cnt F) : List S32768.Idx → Cnt F → Cnt F
  | [], f => f
  | i :: l, f => putAll w l (put f w i)

/-- Single stores, one after the other, into counters that may be written. -/
theorem wp_storeAll {α : Type} {Q : α → sProp 𝕄} (h : Whole (p := (V d c j).2) cM (Rect.whole S32768) Finset.univ) (X : Finset S32768.Idx) (w : Cnt F)
    (l : List S32768.Idx) (f : Cnt F) (hl : ∀ i ∈ l, i ∈ X) (k : PUnit → Prog (TpuEff nD τ sig (Elt F) Λ₀ (V d c j).2) α) :
    held2 d c j X f ⊢ iprop((held2 d c j X (putAll w l f) -∗ wp frame (wpE defs₁ 𝒱₀ (V d c j) none) Set.univ (k ⟨⟩) Q)
      -∗ wp frame (wpE defs₁ 𝒱₀ (V d c j) none) Set.univ (storeAll h w l >>= k) Q) := by
  induction l generalizing f with
  | nil =>
    show held2 d c j X f ⊢ iprop((held2 d c j X f -∗ wp frame (wpE defs₁ 𝒱₀ (V d c j) none) Set.univ (k ⟨⟩) Q)
      -∗ wp frame (wpE defs₁ 𝒱₀ (V d c j) none) Set.univ (k ⟨⟩) Q)
    iintro H Hk
    iapply Hk
    iexact H
  | cons i l ih =>
    iintro H Hk
    iapply (wp_one d c j h X w f (hl i (by simp)) (fun x => storeAll h w l >>= k)) $$ H
    iintro H
    iapply (ih (put f w i) (fun y hy => hl y (by simp [hy]))) $$ H
    iexact Hk

/-- Several elements put, read back: the new value at each of them, the old one elsewhere. -/
theorem putAll_apply (w : Cnt F) (l : List S32768.Idx) (f : Cnt F) (k : S32768.Idx) : putAll w l f k = if k ∈ l then w k else f k := by
  induction l generalizing f with
  | nil => rfl
  | cons i l ih =>
    rw [putAll, ih]
    by_cases hl : k ∈ l
    · simp [hl]
    · by_cases hk : k = i
      · simp [hk, put]
      · simp [hl, hk, put]

/-- The last counter. -/
theorem last_val (h : Whole (p := (V d c j).2) cM (Rect.whole S32768) Finset.univ) : (h.last 0).val = 32767 := by
  have h1 : (Rect.whole S32768).size 0 = 32768 := rfl
  show (Rect.whole S32768).size 0 - 1 = 32767
  rw [h1]

/-- A load of all the counters. -/
theorem wp_loadAll {α : Type} {Q : α → sProp 𝕄} (f : Cnt F) (hl : cM.view.LoadsAt (Rect.whole S32768).toLoadRect)
    (k : Cnt F → Prog (TpuEff nD τ sig (Elt F) Λ₀ (V d c j).2) α) :
    (cLoc d c j ↦{fullShare.left} f : sProp 𝕄) ⊢ iprop(((cLoc d c j ↦{fullShare.left} f) -∗ wp frame (wpE defs₁ 𝒱₀ (V d c j) none) Set.univ (k f) Q)
      -∗ wp frame (wpE defs₁ 𝒱₀ (V d c j) none) Set.univ (.op (.load cM (Rect.whole S32768).toLoadRect hl) k) Q) := by
  have hr : (cM.access (Rect.whole S32768)).read (Elt F) f = f := Memref.read_access_whole (Elt F) cc0_scratch1 f
  have h := wp_load_rect (defs := defs₁ (F := F)) 𝒱₀ (V d c j) none Set.univ (Q := Q) (m := cM) (r := Rect.whole S32768) (hl := hl)
    (k := k) (Γ := .empty) (S := Finset.univ) (q := fullShare.left) (f := f) (Finset.subset_univ _)
  rw [hr] at h
  exact h

/-- A store of all the counters, taken apart, that changes none of a quarter already sent. -/
theorem wp_splitStore {α : Type} {Q : α → sProp 𝕄} (h : Whole (p := (V d c j).2) cM (Rect.whole S32768) Finset.univ) (X : Finset S32768.Idx)
    (w f : Cnt F) (hlast : h.last ∈ X) (hw : ∀ i, i ∉ X → f i = w i) (k : PUnit → Prog (TpuEff nD τ sig (Elt F) Λ₀ (V d c j).2) α) :
    held2 d c j X f ⊢ iprop((held2 d c j X w -∗ wp frame (wpE defs₁ 𝒱₀ (V d c j) none) Set.univ (k ⟨⟩) Q)
      -∗ wp frame (wpE defs₁ 𝒱₀ (V d c j) none) Set.univ (splitStore h w >>= k) Q) := by
  iintro H Hk
  unfold held2
  icases H with ⟨Ha, Hb⟩
  iapply (wp_loadAll d c j f h.loads (fun f => storeAll h w (touched h w f) >>= k)) $$ Ha
  iintro Ha
  have hl : ∀ i ∈ touched h w f, i ∈ X := by
    intro i hi
    rcases Split.of_mem_touched h hi with rfl | hi
    · exact hlast
    · by_contra hx
      exact hi (hw i hx)
  iapply (wp_storeAll d c j h X w (touched h w f) f hl k) $$ [Ha Hb]
  · unfold held2
    isplitl [Ha]
    · iexact Ha
    · iexact Hb
  have he : putAll w (touched h w f) f = w := by
    funext i
    rw [putAll_apply]
    split
    · rfl
    · rename_i hi
      by_contra hne
      exact hi (List.mem_toFinset.mp (Split.mem_touched (c := V d c j) h hne))
  rw [he]
  iexact Hk

/-- The scatter, taken apart, that changes none of a quarter already sent. -/
theorem wp_scatter {α : Type} {Q : α → sProp 𝕄} (X : Finset S32768.Idx) (f : Cnt F) (p : IVec S16 32) (v : FVec F S16 .f32) (mask : IVec S16 1)
    (hp : ∀ a x, ((![p] : Fin 1 → IVec S16 32) a x).toNat < S32768.size a) (hs : (cM.access (.whole S32768)).Stores Finset.univ)
    (hlast : ∀ i : S32768.Idx, (i 0).val = 32767 → i ∈ X) (hw : ∀ i, i ∉ X → f i = storeIdx (F := F) f ![p] v mask true hp i)
    (k : PUnit → Prog (TpuEff nD τ sig (Elt F) Λ₀ (V d c j).2) α) :
    held2 d c j X f ⊢ iprop((held2 d c j X (storeIdx f ![p] v mask true hp) -∗ wp frame (wpE defs₁ 𝒱₀ (V d c j) none) Set.univ (split (k ⟨⟩)) Q)
      -∗ wp frame (wpE defs₁ 𝒱₀ (V d c j) none) Set.univ
        (split (SparseCore.vectorStoreIdx (nD := nD) (p := (V d c j).2) (Λ := Λ₀) cM ![p] v mask true hp hs >>= k)) Q) := by
  have h : Whole (p := (V d c j).2) cM (Rect.whole S32768) Finset.univ :=
    ⟨rfl, rfl, rfl, rfl, fun a => by rw [Fin.eq_zero a]; show 0 < 32768; decide⟩
  have he : split (SparseCore.vectorStoreIdx (nD := nD) (p := (V d c j).2) (Λ := Λ₀) cM ![p] v mask true hp hs >>= k)
      = .op (.load cM (.whole S32768) (View.loadsAt_rect hs.loads)) fun f =>
          splitStore h (storeIdx f ![p] v mask true hp) >>= fun x => split (k x) := by
    refine congrArg (Prog.op _) (funext fun f => ?_)
    show Split.splitEff _ >>= _ = _
    rw [Split.splitEff_store, dif_pos h]
    rfl
  rw [he]
  iintro H Hk
  unfold held2
  icases H with ⟨Ha, Hb⟩
  iapply (wp_loadAll d c j f (View.loadsAt_rect hs.loads) (fun f => splitStore h (storeIdx f ![p] v mask true hp) >>= fun x => split (k x))) $$ Ha
  iintro Ha
  iapply (wp_splitStore d c j h X (storeIdx f ![p] v mask true hp) f (hlast _ (last_val d c j h)) hw (fun x => split (k x))) $$ [Ha Hb]
  · unfold held2
    isplitl [Ha]
    · iexact Ha
    · iexact Hb
  unfold held2
  iexact Hk

end
end Cert.Proof.KI
end
-- ==== Proof.Rows.lean ====
/-
  The loops of a task: the one that clears the counters, and those that count the rows' words.
-/
module

public import proofs.«01_k».proof.Proof.Scatter

@[expose] public section

noncomputable section

namespace Cert.Proof.KI
open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Split (Whole split split_bind)

variable {F : FTy → Type} [FloatOps F]

local notation "𝕄" => MT nD τ sig (HIx 1) (Elt F) ℕ UU ℕ

/-- The index scratch. -/
abbrev iM : Memref sig .scVector .vmem S1600 .i32 := Memref.whole cc0_scratch0

/-- Word `n` of the index scratch's contents. -/
def word (g : S1600.Idx → BitVec 32) (n : ℕ) : ℕ := (g fun a => ⟨n % S1600.size a, Nat.mod_lt _ (by rw [Fin.eq_zero a]; decide)⟩).toNat

/-- The contents name rows of the codebook. -/
def Small (g : S1600.Idx → BitVec 32) : Prop := ∀ i, (g i).toNat < 1000

/-- A word that names a row of the codebook names a counter of its row. -/
theorem word_lt {g : S1600.Idx → BitVec 32} (hg : Small g) (n : ℕ) : word g n < 1024 := (hg _).trans (by decide)

/-- The counters from quarter `q` on. -/
def from_ (q : ℕ) : Finset S32768.Idx := Finset.univ.filter fun i => 8192 * q ≤ (i 0).val

/-- Membership in the counters from a quarter on. -/
theorem mem_from {q : ℕ} {i : S32768.Idx} : i ∈ from_ q ↔ 8192 * q ≤ (i 0).val := by simp [from_]

section
variable (d : Dev nD) (c : Fin τ.nSC) (j : Fin τ.nSub)

/-- Where a task's words are. -/
abbrev iLoc : Loc nD τ sig := (V d c j).loc cc0_scratch0

/-- One group of a row: sixteen words loaded, checked in range, and counted (those the mask has). -/
def group {α : Type} (off : Fin 1 → ℕ) (inb : ∀ a, off a + S16.size a ≤ S1600.size a) (pay : Vec F S16 .i32 → IVec S16 32)
    (P : IVec S16 32 → Prop) (dec : ∀ v, Decidable (P v)) (hidx : ∀ v, P v → ∀ a x, ((![v] : Fin 1 → IVec S16 32) a x).toNat < S32768.size a)
    (mask : IVec S16 1) (k : Prog (TpuEff nD τ sig (Elt F) Λ₀ (V d c j).2) α) : Prog (TpuEff nD τ sig (Elt F) Λ₀ (V d c j).2) α :=
  .op (.load iM (Rect.unit (s := S1600) off S16.size inb).toLoadRect (View.loadsAt_vmem h_S16)) fun v =>
    .op (.assume (P (pay v)) (dec (pay v))) fun hw =>
      SparseCore.vectorStoreIdx cM ![pay v] (k0_pay2 (F := F)) mask true (hidx (pay v) hw.down) (View.stores_vmem_bits_univ h_S32768 rfl) >>= fun _ => k

/-- A group of row `R` counted: sixteen words are loaded, and those from lane `l₀` on are added to the counters. -/
theorem wp_group {α : Type} {Q : α → sProp 𝕄} {g : S1600.Idx → BitVec 32} (hg : Small g) {q R l₀ n₀ : ℕ} (hq : q ≤ 3) (hR : R < 32) (hqR : 8 * q ≤ R)
    (hl : l₀ ≤ 16) (hn : 50 * R ≤ n₀ + l₀) (hn' : n₀ + 16 ≤ 50 * R + 50) (off : Fin 1 → ℕ) (hoff : off 0 = n₀)
    (inb : ∀ a, off a + S16.size a ≤ S1600.size a) (pay : Vec F S16 .i32 → IVec S16 32)
    (hpay : ∀ v x, pay v x = v x + BitVec.ofNat 32 (1024 * R))
    (P : IVec S16 32 → Prop) (hP : ∀ v, (∀ a x, ((![v] : Fin 1 → IVec S16 32) a x).toNat < S32768.size a) → P v)
    (dec : ∀ v, Decidable (P v)) (hidx : ∀ v, P v → ∀ a x, ((![v] : Fin 1 → IVec S16 32) a x).toNat < S32768.size a)
    (mask : IVec S16 1) (hm : ∀ x : S16.Idx, mask x = 1 ↔ l₀ ≤ (x 0).val) (k : Prog (TpuEff nD τ sig (Elt F) Λ₀ (V d c j).2) α) :
    iprop((iLoc d c j ↦{fullShare} g) ∗ held2 d c j (from_ q) (acc (word g) (n₀ + l₀)))
      ⊢ iprop(((iLoc d c j ↦{fullShare} g) ∗ held2 d c j (from_ q) (acc (word g) (n₀ + 16)) -∗ wp frame (wpE defs₁ 𝒱₀ (V d c j) none) Set.univ (split k) Q)
      -∗ wp frame (wpE defs₁ 𝒱₀ (V d c j) none) Set.univ (split (group d c j off inb pay P dec hidx mask k)) Q) := by
  have he : split (group d c j off inb pay P dec hidx mask k) = .op (.load iM (Rect.unit (s := S1600) off S16.size inb).toLoadRect (View.loadsAt_vmem h_S16)) fun v =>
      .op (.assume (P (pay v)) (dec (pay v))) fun hw => split
        (SparseCore.vectorStoreIdx cM ![pay v] (k0_pay2 (F := F)) mask true (hidx (pay v) hw.down) (View.stores_vmem_bits_univ h_S32768 rfl) >>= fun _ => k) := rfl
  rw [he]
  iintro ⟨Hi, Hc⟩ Hk
  iapply (wp_load_rect (defs := defs₁ (F := F)) 𝒱₀ (V d c j) none Set.univ (Q := Q) (m := iM) (r := Rect.unit (s := S1600) off S16.size inb)
    (S := Finset.univ) (q := fullShare) (f := g) (Γ := .empty) (Finset.subset_univ _)) $$ Hi
  iintro Hi
  obtain ⟨v, hv⟩ : ∃ v, (iM.access (Rect.unit (s := S1600) off S16.size inb)).read (Elt F) g = v := ⟨_, rfl⟩
  have hvx : ∀ x : S16.Idx, (v x).toNat = word g (n₀ + (x 0).val) := by
    intro x
    rw [← hv]
    refine congrArg (fun i => (g i).toNat) (funext fun a => Fin.ext ?_)
    obtain rfl := Fin.eq_zero a
    have hx : (x 0).val < 16 := (x 0).isLt
    have h2 := inb 0
    rw [hoff] at h2
    have h2 : n₀ + 16 ≤ 1600 := h2
    show off 0 + 1 * (x 0).val = (n₀ + (x 0).val) % 1600
    rw [hoff, Nat.mod_eq_of_lt (by omega), Nat.one_mul]
  have hpx : ∀ x : S16.Idx, (pay v x).toNat = 1024 * R + word g (n₀ + (x 0).val) := by
    intro x
    have h1 := hvx x
    have h2 := word_lt hg (n₀ + (x 0).val)
    rw [hpay, BitVec.toNat_add, BitVec.toNat_ofNat, h1]
    omega
  have hP' : P (pay v) := hP _ fun a x => by
    obtain rfl := Fin.eq_zero a
    have h2 := word_lt hg (n₀ + (x 0).val)
    show (pay v x).toNat < 32768
    rw [hpx]; omega
  have hs := storeIdx_acc (F := F) (word g) n₀ l₀ hl (pay v) mask (hidx _ hP') hm (fun x hx => by
    have hx' : (x 0).val < 16 := (x 0).isLt
    rw [hpx, show (n₀ + (x 0).val) / 50 = R by omega])
  rw [hv]
  iapply (Entails.of_eq (wp_assume_of (defs := defs₁ (F := F)) 𝒱₀ (V d c j) none Set.univ hP' (d := dec (pay v)) (Q := Q)
    (k := fun hw => split (SparseCore.vectorStoreIdx cM ![pay v] (k0_pay2 (F := F)) mask true (hidx (pay v) hw.down) (View.stores_vmem_bits_univ h_S32768 rfl) >>= fun _ => k))).symm)
  iapply (wp_scatter d c j (from_ q) (acc (word g) (n₀ + l₀)) (pay v) (k0_pay2 (F := F)) mask (hidx _ hP') (View.stores_vmem_bits_univ h_S32768 rfl)
    (fun i hi => by rw [mem_from, hi]; omega) (fun i hi => by
      rw [hs]
      refine (acc_same (word g) (by omega) i fun k h1 h2 hc => ?_).symm
      rw [mem_from] at hi
      have : R ≤ k / 50 := by omega
      have : 1024 * R ≤ 1024 * (k / 50) := Nat.mul_le_mul_left _ this
      omega) (fun _ => k)) $$ Hc
  rw [hs]
  iintro Hc
  iapply Hk
  isplitl [Hi]
  · iexact Hi
  · iexact Hc

/-- A program that has returned, taken apart, has returned. -/
theorem wp_done {α : Type} {Q : α → sProp 𝕄} (a : α) :
    Q a ⊢ wp frame (wpE defs₁ 𝒱₀ (V d c j) none) Set.univ (split (p := (V d c j).2) (nD := nD) (sig := sig) (Val := Elt F) (Λ := Λ₀) (.ret a)) Q := by
  show Q a ⊢ wp frame (wpE defs₁ 𝒱₀ (V d c j) none) Set.univ (.ret a) Q
  rw [wp_ret]
  iintro H
  imodintro
  iexact H

/-! ### A row, and the loop over eight of them -/

/-- The data of one group: where its words lie, how their counters are named, and the check. -/
structure Grp (F : FTy → Type) where
  off : Fin 1 → ℕ
  inb : ∀ a, off a + S16.size a ≤ S1600.size a
  pay : Vec F S16 .i32 → IVec S16 32
  P : IVec S16 32 → Prop
  dec : ∀ v, Decidable (P v)
  hidx : ∀ v, P v → ∀ a x, ((![v] : Fin 1 → IVec S16 32) a x).toNat < S32768.size a

/-- A group of row `R` whose words start at `n`. -/
structure Grp.Ok (G : Grp F) (R n : ℕ) : Prop where
  hoff : G.off 0 = n
  hpay : ∀ v x, G.pay v x = v x + BitVec.ofNat 32 (1024 * R)
  hP : ∀ v, (∀ a x, ((![v] : Fin 1 → IVec S16 32) a x).toNat < S32768.size a) → G.P v

/-- A row: three groups of sixteen words, and one of the last two. -/
def row (G₁ G₂ G₃ G₄ : Grp F) : Prog (TpuEff nD τ sig (Elt F) Λ₀ (V d c j).2) (BitVec 32) :=
  group d c j G₁.off G₁.inb G₁.pay G₁.P G₁.dec G₁.hidx (fun _ => 1#1) <|
  group d c j G₂.off G₂.inb G₂.pay G₂.P G₂.dec G₂.hidx (fun _ => 1#1) <|
  group d c j G₃.off G₃.inb G₃.pay G₃.P G₃.dec G₃.hidx (fun _ => 1#1) <|
  group d c j G₄.off G₄.inb G₄.pay G₄.P G₄.dec G₄.hidx k0_pay3 (.ret 0#32)

/-- One row counted: its fifty words, group after group. -/
theorem wp_row {g : S1600.Idx → BitVec 32} (hg : Small g) {q R : ℕ} (hq : q ≤ 3) (hR : R < 32) (hqR : 8 * q ≤ R) {G₁ G₂ G₃ G₄ : Grp F}
    (h₁ : G₁.Ok R (50 * R)) (h₂ : G₂.Ok R (50 * R + 16)) (h₃ : G₃.Ok R (50 * R + 32)) (h₄ : G₄.Ok R (50 * R + 34)) :
    iprop((iLoc d c j ↦{fullShare} g) ∗ held2 d c j (from_ q) (acc (word g) (50 * R)))
      ⊢ wp frame (wpE defs₁ 𝒱₀ (V d c j) none) Set.univ (split (row d c j G₁ G₂ G₃ G₄))
          fun _ => iprop((iLoc d c j ↦{fullShare} g) ∗ held2 d c j (from_ q) (acc (word g) (50 * (R + 1)))) := by
  unfold row
  have hm : ∀ x : S16.Idx, (1#1 : BitVec 1) = 1 ↔ 0 ≤ (x 0).val := fun x => ⟨fun _ => Nat.zero_le _, fun _ => rfl⟩
  iintro H
  iapply (wp_group d c j hg hq hR hqR (l₀ := 0) (n₀ := 50 * R) (by omega) (by omega) (by omega) G₁.off h₁.hoff G₁.inb G₁.pay h₁.hpay G₁.P h₁.hP G₁.dec G₁.hidx
    (fun _ => 1#1) hm _) $$ H
  iintro H
  iapply (wp_group d c j hg hq hR hqR (l₀ := 0) (n₀ := 50 * R + 16) (by omega) (by omega) (by omega) G₂.off h₂.hoff G₂.inb G₂.pay h₂.hpay G₂.P h₂.hP G₂.dec G₂.hidx
    (fun _ => 1#1) hm _) $$ H
  iintro H
  iapply (wp_group d c j hg hq hR hqR (l₀ := 0) (n₀ := 50 * R + 32) (by omega) (by omega) (by omega) G₃.off h₃.hoff G₃.inb G₃.pay h₃.hpay G₃.P h₃.hP G₃.dec G₃.hidx
    (fun _ => 1#1) hm _) $$ H
  iintro H
  iapply (wp_group d c j hg hq hR hqR (l₀ := 14) (n₀ := 50 * R + 34) (by omega) (by omega) (by omega) G₄.off h₄.hoff G₄.inb G₄.pay h₄.hpay G₄.P h₄.hP G₄.dec G₄.hidx
    k0_pay3 mask_iff _) $$ H
  iintro H
  iapply (wp_done d c j _)
  iexact H

/-- What the loop of quarter `q` holds before its `k`-th row. -/
def rowsInv (g : S1600.Idx → BitVec 32) (q k : ℕ) : sProp 𝕄 :=
  iprop((iLoc d c j ↦{fullShare} g) ∗ held2 d c j (from_ q) (acc (word g) (50 * (8 * q + k))))

/-- A quarter's loop: eight rows counted. -/
theorem wp_rows {α : Type} {Q : α → sProp 𝕄} {g : S1600.Idx → BitVec 32} (hg : Small g) {q : ℕ} (hq : q ≤ 3) (lb ub st : BitVec 32) (hok : Scf.OK lb ub st)
    (ht : Scf.trips lb ub st = 8)
    (b : Fin (Scf.trips lb ub st) → BitVec 32 → Prog (TpuEff nD τ sig (Elt F) Λ₀ (V d c j).2) (BitVec 32))
    (hb : ∀ t a, ∃ G₁ G₂ G₃ G₄ : Grp F, b t a = row d c j G₁ G₂ G₃ G₄ ∧ G₁.Ok (8 * q + t.val) (50 * (8 * q + t.val))
      ∧ G₂.Ok (8 * q + t.val) (50 * (8 * q + t.val) + 16) ∧ G₃.Ok (8 * q + t.val) (50 * (8 * q + t.val) + 32)
      ∧ G₄.Ok (8 * q + t.val) (50 * (8 * q + t.val) + 34))
    (k : BitVec 32 → Prog (TpuEff nD τ sig (Elt F) Λ₀ (V d c j).2) α) :
    rowsInv d c j g q 0 ⊢ iprop((∀ a, rowsInv d c j g q 8 -∗ wp frame (wpE defs₁ 𝒱₀ (V d c j) none) Set.univ (split (k a)) Q)
      -∗ wp frame (wpE defs₁ 𝒱₀ (V d c j) none) Set.univ (split (Scf.for lb ub st hok 0#32 b >>= k)) Q) := by
  rw [split_bind, Split.split_for]
  have h := Scf.wp_for_bind (M := 𝕄) frame (wpE defs₁ 𝒱₀ (V d c j) none) Set.univ lb ub st hok 0#32 (fun t a => split (b t a))
    (fun k _ => rowsInv d c j g q k) (fun t a => by
      obtain ⟨G₁, G₂, G₃, G₄, he, h₁, h₂, h₃, h₄⟩ := hb t a
      have ht' : t.val < 8 := ht ▸ t.isLt
      rw [he]
      exact wp_row d c j hg hq (by omega) (by omega) h₁ h₂ h₃ h₄) (kk := fun a => split (k a)) (Q := Q)
  have e : rowsInv (F := F) d c j g q (Scf.trips lb ub st) = rowsInv d c j g q 8 := by rw [ht]
  simp only [e] at h
  exact h

/-! ### The clearing loop -/

/-- The counters before `o` are zero. -/
def cleared (o : ℕ) : sProp 𝕄 := iprop(∃ f : Cnt F, ⌜∀ i : S32768.Idx, (i 0).val < o → f i = zero⌝ ∗ cLoc d c j ↦{fullShare} f)

/-- One step of the loop: sixteen counters read and cleared. -/
def clear16 {α : Type} (off : Fin 1 → ℕ) (inb : ∀ a, off a + S16.size a ≤ S32768.size a) (k : Prog (TpuEff nD τ sig (Elt F) Λ₀ (V d c j).2) α) :
    Prog (TpuEff nD τ sig (Elt F) Λ₀ (V d c j).2) α :=
  .op (.load cM (Rect.unit (s := S32768) off S16.size inb).toLoadRect (View.loadsAt_vmem h_S16)) fun _ =>
    .op (.store cM (Rect.unit (s := S32768) off S16.size inb) (k0_pay1 (F := F)) Finset.univ (View.stores_vmem_bits_univ h_S16 rfl) (.inl rfl)) fun _ => k

/-- Sixteen counters cleared. -/
theorem wp_clear16 {α : Type} {Q : α → sProp 𝕄} (o : ℕ) (off : Fin 1 → ℕ) (hoff : off 0 = o) (inb : ∀ a, off a + S16.size a ≤ S32768.size a)
    (k : Prog (TpuEff nD τ sig (Elt F) Λ₀ (V d c j).2) α) :
    (cleared d c j o : sProp 𝕄) ⊢ iprop((cleared d c j (o + 16) -∗ wp frame (wpE defs₁ 𝒱₀ (V d c j) none) Set.univ (split k) Q)
      -∗ wp frame (wpE defs₁ 𝒱₀ (V d c j) none) Set.univ (split (clear16 d c j off inb k)) Q) := by
  have he : split (clear16 (F := F) d c j off inb k) = clear16 d c j off inb (split k) := by
    refine congrArg (Prog.op _) (funext fun _ => ?_)
    show Split.splitEff _ >>= _ = _
    rw [Split.splitEff_store, dif_neg (fun h => absurd (congrFun h.size 0) (show ¬ (16 : ℕ) = 32768 by decide))]
    rfl
  rw [he]
  unfold cleared clear16
  iintro ⟨%f, %hf, H⟩ Hk
  iapply (wp_load_rect (defs := defs₁ (F := F)) 𝒱₀ (V d c j) none Set.univ (Q := Q) (m := cM) (r := Rect.unit (s := S32768) off S16.size inb)
    (S := Finset.univ) (q := fullShare) (f := f) (Γ := .empty) (Finset.subset_univ _)) $$ H
  iintro H
  iapply (wp_store (defs := defs₁ (F := F)) 𝒱₀ (V d c j) none Set.univ (Q := Q) (m := cM) (r := Rect.unit (s := S32768) off S16.size inb) (Mk := Finset.univ)
    (hm := .inl rfl) (k := fun _ => split k) (f := f) (S := Finset.univ) (Finset.subset_univ _)) $$ H
  iintro H
  iapply Hk
  iexists (cM.access (Rect.unit (s := S32768) off S16.size inb)).write (Elt F) f (k0_pay1 (F := F)) Finset.univ
  isplitr
  · ipureintro
    intro i hi
    by_cases h : o ≤ (i 0).val
    · have h1 : (cM.access (Rect.unit (s := S32768) off S16.size inb)).emb (fun a => ⟨(i 0).val - o, by rw [Fin.eq_zero a]; show _ < 16; omega⟩) = i := by
        funext a
        obtain rfl := Fin.eq_zero a
        refine Fin.ext ?_
        show off 0 + 1 * ((i 0).val - o) = (i 0).val
        rw [hoff]; omega
      rw [← h1, View.write_emb_of_mem _ _ (Finset.mem_univ _)]
      rfl
    · rw [View.write_of_not_mem]
      · exact hf i (by omega)
      · intro hc
        obtain ⟨y, -, hy⟩ := Finset.mem_map.mp hc
        have : off 0 + 1 * (y 0).val = (i 0).val := congrArg (fun z : S32768.Idx => (z 0).val) hy
        rw [hoff] at this; omega
  · iexact H

/-- Step `r` of trip `t`. -/
def clearAt (t : Fin k0_t1_loop.trips) {α : Type} (r : Fin 16) (k : Prog (TpuEff nD τ sig (Elt F) Λ₀ (V d c j).2) α) :
    Prog (TpuEff nD τ sig (Elt F) Λ₀ (V d c j).2) α :=
  clear16 d c j (k0_off2 t (BitVec.ofNat 32 r.val)) (k0_off2_inb t r) k

/-- The steps of one trip from the `n`-th on. -/
def clearFrom (t : Fin k0_t1_loop.trips) {α : Type} (l : List (Fin 16)) (k : Prog (TpuEff nD τ sig (Elt F) Λ₀ (V d c j).2) α) :
    Prog (TpuEff nD τ sig (Elt F) Λ₀ (V d c j).2) α :=
  l.foldr (clearAt d c j t) k

/-- Several groups of sixteen counters cleared, one after the other. -/
theorem wp_clearFrom {α : Type} {Q : α → sProp 𝕄} (t : Fin k0_t1_loop.trips) (n : ℕ) (k : Prog (TpuEff nD τ sig (Elt F) Λ₀ (V d c j).2) α) (l : List (Fin 16))
    (hl : l.map Fin.val = List.range' n l.length) :
    (cleared d c j (256 * t.val + 16 * n) : sProp 𝕄) ⊢ iprop((cleared d c j (256 * t.val + 16 * (n + l.length)) -∗ wp frame (wpE defs₁ 𝒱₀ (V d c j) none) Set.univ (split k) Q)
      -∗ wp frame (wpE defs₁ 𝒱₀ (V d c j) none) Set.univ (split (clearFrom d c j t l k)) Q) := by
  induction l generalizing n with
  | nil =>
    iintro H Hk
    iapply Hk $$ H
  | cons r l ih =>
    rw [List.length_cons, List.range'_succ, List.map_cons, List.cons.injEq] at hl
    obtain ⟨hr, hl⟩ := hl
    iintro H Hk
    iapply (wp_clear16 d c j (256 * t.val + 16 * n) (k0_off2 t (BitVec.ofNat 32 r.val)) (by rw [k0_off2_eq, ← hr]; rfl) (k0_off2_inb t r) (clearFrom d c j t l k)) $$ H
    rw [show 256 * t.val + 16 * n + 16 = 256 * t.val + 16 * (n + 1) by omega]
    iintro H
    iapply (ih (n + 1) hl) $$ H
    rw [show n + 1 + l.length = n + (r :: l).length by rw [List.length_cons]; omega]
    iexact Hk

/-- The loop that clears all the counters. -/
theorem wp_clear {α : Type} {Q : α → sProp 𝕄}
    (b : Fin k0_t1_loop.trips → BitVec 32 → Prog (TpuEff nD τ sig (Elt F) Λ₀ (V d c j).2) (BitVec 32))
    (hb : ∀ t a, b t a = clearFrom d c j t (List.finRange 16) (.ret 0#32))
    (k : BitVec 32 → Prog (TpuEff nD τ sig (Elt F) Λ₀ (V d c j).2) α) (f : Cnt F) :
    (cLoc d c j ↦{fullShare} f : sProp 𝕄) ⊢ iprop((∀ a, (cLoc d c j ↦{fullShare} (fun _ => zero : Cnt F)) -∗ wp frame (wpE defs₁ 𝒱₀ (V d c j) none) Set.univ (split (k a)) Q)
      -∗ wp frame (wpE defs₁ 𝒱₀ (V d c j) none) Set.univ (split (Scf.Loop.for k0_t1_loop k0_t1_ok 0#32 b >>= k)) Q) := by
  have ht : k0_t1_loop.trips = 128 := by decide
  rw [split_bind]
  have hs : split (Scf.Loop.for k0_t1_loop k0_t1_ok 0#32 b) = Scf.for k0_t1_loop.lb k0_t1_loop.ub k0_t1_loop.st k0_t1_ok 0#32 (fun t a => split (b t a)) :=
    Split.split_for _ _ _ _ _ _
  rw [hs]
  have h := Scf.wp_for_bind (M := 𝕄) frame (wpE defs₁ 𝒱₀ (V d c j) none) Set.univ k0_t1_loop.lb k0_t1_loop.ub k0_t1_loop.st k0_t1_ok 0#32 (fun t a => split (b t a))
    (fun k _ => cleared d c j (256 * k)) (fun t a => by
      rw [hb]
      have h1 := wp_clearFrom (F := F) (Q := fun _ => cleared d c j (256 * (t.val + 1))) d c j t 0 (.ret 0#32) (List.finRange 16) (by decide)
      iintro H
      iapply h1 $$ H
      rw [show 256 * t.val + 16 * (0 + (List.finRange 16).length) = 256 * (t.val + 1) by rw [List.length_finRange]; omega]
      iintro H
      iapply (wp_done d c j _)
      iexact H) (kk := fun a => split (k a)) (Q := Q)
  have e : cleared (F := F) d c j (256 * Scf.trips k0_t1_loop.lb k0_t1_loop.ub k0_t1_loop.st) = cleared d c j 32768 := by
    rw [show Scf.trips k0_t1_loop.lb k0_t1_loop.ub k0_t1_loop.st = 128 from ht]
  simp only [e] at h
  iintro H Hk
  iapply h $$ [H]
  · unfold cleared
    iexists f
    isplitr
    · ipureintro; intro i hi; omega
    · iexact H
  iintro %a Hc
  unfold cleared
  icases Hc with ⟨%f', %hf', H⟩
  have hf : f' = fun _ => zero := by
    funext i
    exact hf' i (by have := (i 0).isLt; exact this)
  rw [hf]
  iapply Hk
  iexact H

end
end Cert.Proof.KI
end
-- ==== Proof.Bodies.lean ====
/-
  The printed loop bodies as `Rows.lean` takes them.
-/
module

public import proofs.«01_k».proof.Proof.Rows

@[expose] public section

noncomputable section

namespace Cert.Proof.KI
open Cert.KernelIdeal Cert.KernelIdeal.Gen
open Idealize.ShloMosaic
open Idealize.ShloMosaic.SparseCore (S V T)
open Idealize.SL.Sem

variable {F : FTy → Type} [FloatOps F]

/-- The task's SparseCore and subcore. -/
abbrev cV (L : grid0.Coords) : Fin τ.nSC := (L 0).castLE hcore0
abbrev jV (L : grid0.Coords) : Fin τ.nSub := (L 1).castLE hsub0

/-- The arrays' memrefs, as a task sees them. -/
abbrev aM : Memref sig .scVector .hbm S51200 .i32 := Memref.whole main_v0_scv
abbrev bM : Memref sig .scVector .hbm S32x32768 .f32 := Memref.whole main_v1_scv

variable (d : Dev nD) (L : grid0.Coords)

/-- The printed body that clears counters is sixteen clears, one after the other. -/
theorem t1_eq (t : Fin k0_t1_loop.trips) (a : BitVec 32) :
    k0_t1_body (F := F) L aM (Memref.isWhole_whole _) bM (Memref.isWhole_whole _) iM (Memref.isWhole_whole _) cM (Memref.isWhole_whole _) cc0_scratch2 cc0_scratch3 t a
      = clearFrom d (cV L) (jV L) t (List.finRange 16) (.ret 0#32) := rfl

/-- The first counter of a row of the first quarter. -/
theorem mul1 : ∀ t : Fin k0_t2_loop.trips, Scalar.muli (Scf.iv 0#32 1#32 t) 1024#32 = BitVec.ofNat 32 (1024 * (8 * 0 + t.val)) := by decide +kernel
/-- The first counter of a row of the second quarter. -/
theorem mul2 : ∀ t : Fin k0_t3_loop.trips, Scalar.muli (Scf.iv 8#32 1#32 t) 1024#32 = BitVec.ofNat 32 (1024 * (8 * 1 + t.val)) := by decide +kernel
/-- The first counter of a row of the third quarter. -/
theorem mul3 : ∀ t : Fin k0_t4_loop.trips, Scalar.muli (Scf.iv 16#32 1#32 t) 1024#32 = BitVec.ofNat 32 (1024 * (8 * 2 + t.val)) := by decide +kernel
/-- The first counter of a row of the fourth quarter. -/
theorem mul4 : ∀ t : Fin k0_t5_loop.trips, Scalar.muli (Scf.iv 24#32 1#32 t) 1024#32 = BitVec.ofNat 32 (1024 * (8 * 3 + t.val)) := by decide +kernel

/-- A group's facts from its offset's closed form and its counters' naming. -/
theorem grp_ok {off : Fin 1 → ℕ} {inb : ∀ a, off a + S16.size a ≤ S1600.size a} {pay : Vec F S16 .i32 → IVec S16 32} {dec hidx} {R n : ℕ}
    (hoff : off 0 = n) {b : BitVec 32} (hb : b = BitVec.ofNat 32 (1024 * R)) (hpay : pay = fun v x => v x + b) :
    Grp.Ok (F := F) ⟨off, inb, pay, fun v => ∀ a x, ((![v] : Fin 1 → IVec S16 32) a x).toNat < S32768.size a, dec, hidx⟩ R n :=
  ⟨hoff, fun v x => by subst hb hpay; rfl, fun v h => h⟩

/-- The printed body of the first quarter's loop counts row `t`. -/
theorem t2_ok (t : Fin k0_t2_loop.trips) (a : BitVec 32) :
    ∃ G₁ G₂ G₃ G₄ : Grp F, k0_t2_body (F := F) L aM (Memref.isWhole_whole _) bM (Memref.isWhole_whole _) iM (Memref.isWhole_whole _) cM (Memref.isWhole_whole _) cc0_scratch2 cc0_scratch3 t a
        = row d (cV L) (jV L) G₁ G₂ G₃ G₄ ∧ G₁.Ok (8 * 0 + t.val) (50 * (8 * 0 + t.val)) ∧ G₂.Ok (8 * 0 + t.val) (50 * (8 * 0 + t.val) + 16)
      ∧ G₃.Ok (8 * 0 + t.val) (50 * (8 * 0 + t.val) + 32) ∧ G₄.Ok (8 * 0 + t.val) (50 * (8 * 0 + t.val) + 34) :=
  ⟨⟨_, k0_off3_inb t, k0_pay4 t, _, k0_chk1.dec, k0_idx1_inb⟩, ⟨_, k0_off4_inb t, k0_pay5 t, _, k0_chk2.dec, k0_idx2_inb⟩,
    ⟨_, k0_off5_inb t, k0_pay6 t, _, k0_chk3.dec, k0_idx3_inb⟩, ⟨_, k0_off6_inb t, k0_pay7 t, _, k0_chk4.dec, k0_idx4_inb⟩, rfl,
    grp_ok (by rw [k0_off3_eq]; show 50 * t.val = _; omega) (mul1 t) rfl, grp_ok (by rw [k0_off4_eq]; show 50 * t.val + 16 = _; omega) (mul1 t) rfl,
    grp_ok (by rw [k0_off5_eq]; show 50 * t.val + 32 = _; omega) (mul1 t) rfl, grp_ok (by rw [k0_off6_eq]; show 50 * t.val + 34 = _; omega) (mul1 t) rfl⟩

/-- The printed body of the second quarter's loop counts row `8 + t`. -/
theorem t3_ok (t : Fin k0_t3_loop.trips) (a : BitVec 32) :
    ∃ G₁ G₂ G₃ G₄ : Grp F, k0_t3_body (F := F) L aM (Memref.isWhole_whole _) bM (Memref.isWhole_whole _) iM (Memref.isWhole_whole _) cM (Memref.isWhole_whole _) cc0_scratch2 cc0_scratch3 t a
        = row d (cV L) (jV L) G₁ G₂ G₃ G₄ ∧ G₁.Ok (8 * 1 + t.val) (50 * (8 * 1 + t.val)) ∧ G₂.Ok (8 * 1 + t.val) (50 * (8 * 1 + t.val) + 16)
      ∧ G₃.Ok (8 * 1 + t.val) (50 * (8 * 1 + t.val) + 32) ∧ G₄.Ok (8 * 1 + t.val) (50 * (8 * 1 + t.val) + 34) :=
  ⟨⟨_, k0_off8_inb t, k0_pay8 t, _, k0_chk5.dec, k0_idx5_inb⟩, ⟨_, k0_off9_inb t, k0_pay9 t, _, k0_chk6.dec, k0_idx6_inb⟩,
    ⟨_, k0_off10_inb t, k0_pay10 t, _, k0_chk7.dec, k0_idx7_inb⟩, ⟨_, k0_off11_inb t, k0_pay11 t, _, k0_chk8.dec, k0_idx8_inb⟩, rfl,
    grp_ok (by rw [k0_off8_eq]; show 50 * t.val + 400 = _; omega) (mul2 t) rfl, grp_ok (by rw [k0_off9_eq]; show 50 * t.val + 416 = _; omega) (mul2 t) rfl,
    grp_ok (by rw [k0_off10_eq]; show 50 * t.val + 432 = _; omega) (mul2 t) rfl, grp_ok (by rw [k0_off11_eq]; show 50 * t.val + 434 = _; omega) (mul2 t) rfl⟩

/-- The printed body of the third quarter's loop counts row `16 + t`. -/
theorem t4_ok (t : Fin k0_t4_loop.trips) (a : BitVec 32) :
    ∃ G₁ G₂ G₃ G₄ : Grp F, k0_t4_body (F := F) L aM (Memref.isWhole_whole _) bM (Memref.isWhole_whole _) iM (Memref.isWhole_whole _) cM (Memref.isWhole_whole _) cc0_scratch2 cc0_scratch3 k0_pay2 k0_pay3 t a
        = row d (cV L) (jV L) G₁ G₂ G₃ G₄ ∧ G₁.Ok (8 * 2 + t.val) (50 * (8 * 2 + t.val)) ∧ G₂.Ok (8 * 2 + t.val) (50 * (8 * 2 + t.val) + 16)
      ∧ G₃.Ok (8 * 2 + t.val) (50 * (8 * 2 + t.val) + 32) ∧ G₄.Ok (8 * 2 + t.val) (50 * (8 * 2 + t.val) + 34) :=
  ⟨⟨_, k0_off13_inb t, k0_pay12 t, _, k0_chk9.dec, k0_idx9_inb⟩, ⟨_, k0_off14_inb t, k0_pay13 t, _, k0_chk10.dec, k0_idx10_inb⟩,
    ⟨_, k0_off15_inb t, k0_pay14 t, _, k0_chk11.dec, k0_idx11_inb⟩, ⟨_, k0_off16_inb t, k0_pay15 t, _, k0_chk12.dec, k0_idx12_inb⟩, rfl,
    grp_ok (by rw [k0_off13_eq]; show 50 * t.val + 800 = _; omega) (mul3 t) rfl, grp_ok (by rw [k0_off14_eq]; show 50 * t.val + 816 = _; omega) (mul3 t) rfl,
    grp_ok (by rw [k0_off15_eq]; show 50 * t.val + 832 = _; omega) (mul3 t) rfl, grp_ok (by rw [k0_off16_eq]; show 50 * t.val + 834 = _; omega) (mul3 t) rfl⟩

/-- The printed body of the fourth quarter's loop counts row `24 + t`. -/
theorem t5_ok (t : Fin k0_t5_loop.trips) (a : BitVec 32) :
    ∃ G₁ G₂ G₃ G₄ : Grp F, k0_t5_body (F := F) L aM (Memref.isWhole_whole _) bM (Memref.isWhole_whole _) iM (Memref.isWhole_whole _) cM (Memref.isWhole_whole _) cc0_scratch2 cc0_scratch3 k0_pay2 k0_pay3 t a
        = row d (cV L) (jV L) G₁ G₂ G₃ G₄ ∧ G₁.Ok (8 * 3 + t.val) (50 * (8 * 3 + t.val)) ∧ G₂.Ok (8 * 3 + t.val) (50 * (8 * 3 + t.val) + 16)
      ∧ G₃.Ok (8 * 3 + t.val) (50 * (8 * 3 + t.val) + 32) ∧ G₄.Ok (8 * 3 + t.val) (50 * (8 * 3 + t.val) + 34) :=
  ⟨⟨_, k0_off18_inb t, k0_pay16 t, _, k0_chk13.dec, k0_idx13_inb⟩, ⟨_, k0_off19_inb t, k0_pay17 t, _, k0_chk14.dec, k0_idx14_inb⟩,
    ⟨_, k0_off20_inb t, k0_pay18 t, _, k0_chk15.dec, k0_idx15_inb⟩, ⟨_, k0_off21_inb t, k0_pay19 t, _, k0_chk16.dec, k0_idx16_inb⟩, rfl,
    grp_ok (by rw [k0_off18_eq]; show 50 * t.val + 1200 = _; omega) (mul4 t) rfl, grp_ok (by rw [k0_off19_eq]; show 50 * t.val + 1216 = _; omega) (mul4 t) rfl,
    grp_ok (by rw [k0_off20_eq]; show 50 * t.val + 1232 = _; omega) (mul4 t) rfl, grp_ok (by rw [k0_off21_eq]; show 50 * t.val + 1234 = _; omega) (mul4 t) rfl⟩

end Cert.Proof.KI
end
-- ==== Proof.Send.lean ====
/-
  Writing a quarter of a task's counters out: the windows' elements, and the issue of one quarter's copy.
-/
module

public import proofs.«01_k».proof.Proof.Bodies
public import Idealize.ShloMosaic.Lib.Batch
public import Idealize.ShloMosaic.Lib.Pipeline.ValueKit.Geometry

@[expose] public section

noncomputable section

namespace Cert.Proof.KI
open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Split (Whole split split_bind)

variable {F : FTy → Type}

local notation "𝕄" => MT nD τ sig (HIx 1) (Elt F) ℕ UU ℕ

/-- Quarter `q` of the counters. -/
def qSet (q : ℕ) : Finset S32768.Idx := Finset.univ.filter fun i => 8192 * q ≤ (i 0).val ∧ (i 0).val < 8192 * (q + 1)
/-- Membership in a quarter of the counters. -/
theorem mem_qSet {q : ℕ} {i : S32768.Idx} : i ∈ qSet q ↔ 8192 * q ≤ (i 0).val ∧ (i 0).val < 8192 * (q + 1) := by simp [qSet]

/-- Quarter `q` of row `w` of the counts' array. -/
def qRow (w q : ℕ) : Finset S32x32768.Idx := Finset.univ.filter fun i => (i 0).val = w ∧ 8192 * q ≤ (i 1).val ∧ (i 1).val < 8192 * (q + 1)
/-- Membership in a quarter of a row of the counts' array. -/
theorem mem_qRow {w q : ℕ} {i : S32x32768.Idx} : i ∈ qRow w q ↔ (i 0).val = w ∧ 8192 * q ≤ (i 1).val ∧ (i 1).val < 8192 * (q + 1) := by simp [qRow]

/-- The quarter's window of the counters, and of the counts' array. -/
abbrev qSrc (off : Fin 1 → ℕ) (inb : ∀ a, off a + S8192.size a ≤ S32768.size a) : Memref sig .scVector .vmem S8192 .f32 :=
  cM.slice (Rect.unit (s := S32768) off S8192.size inb) (fun _ => rfl)
/-- The window of a quarter of a row of the counts' array. -/
abbrev qDst (off : Fin 2 → ℕ) (inb : ∀ a, off a + S1x8192.size a ≤ S32x32768.size a) : Memref sig .scVector .hbm S8192 .f32 :=
  (bM.slice (Rect.unit (s := S32x32768) off S1x8192.size inb) (fun _ => rfl)).squeeze S8192 squeezes_S1x8192_S8192

/-- The quarter's window places its element `y` that far behind its offset. -/
theorem qSrc_emb (off : Fin 1 → ℕ) (inb : ∀ a, off a + S8192.size a ≤ S32768.size a) (y : S8192.Idx) (a : Fin 1) :
    ((qSrc off inb).view.emb y a).val = off a + (y a).val := ValueKit.rect_emb_unit_val (s := S32768) off S8192.size inb y a

/-- The window of the counts' array places its element `y` in its row, that far behind its offset. -/
theorem qDst_emb (off : Fin 2 → ℕ) (inb : ∀ a, off a + S1x8192.size a ≤ S32x32768.size a) (y : S8192.Idx) :
    ((qDst off inb).view.emb y 0).val = off 0 ∧ ((qDst off inb).view.emb y 1).val = off 1 + (y 0).val := by
  have h : (Shape.reshapeEquiv (s := S1x8192) (s' := S8192) squeezes_S1x8192_S8192.numel_eq y) = Fin.cons ⟨0, Nat.one_pos⟩ y :=
    Shape.reshapeEquiv_cons_one squeezes_S1x8192_S8192.numel_eq y
  have he : ∀ a, ((qDst off inb).view.emb y a).val = off a + ((Fin.cons (α := fun a => Fin (S1x8192.size a)) ⟨0, Nat.one_pos⟩ y : S1x8192.Idx) a).val := fun a => by
    rw [← h]
    exact ValueKit.rect_emb_unit_val (s := S32x32768) off S1x8192.size inb _ a
  exact ⟨he 0, he 1⟩

/-- The elements of the quarter's window are the quarter. -/
theorem set_qSrc {q : ℕ} (off : Fin 1 → ℕ) (inb : ∀ a, off a + S8192.size a ≤ S32768.size a) (h : off 0 = 8192 * q) : (qSrc off inb).view.set = qSet q := by
  ext i
  rw [mem_qSet]
  constructor
  · intro hi
    obtain ⟨y, -, rfl⟩ := Finset.mem_map.mp hi
    have h1 := qSrc_emb off inb y 0
    have h2 : (y 0).val < 8192 := (y 0).isLt
    omega
  · intro hi
    refine Finset.mem_map.mpr ⟨fun a => ⟨(i 0).val - 8192 * q, ?_⟩, Finset.mem_univ _, funext fun a => Fin.ext ?_⟩
    · obtain rfl := Fin.eq_zero a
      show _ < 8192
      omega
    · obtain rfl := Fin.eq_zero a
      have h1 := qSrc_emb off inb (fun a => ⟨(i 0).val - 8192 * q, by obtain rfl := Fin.eq_zero a; show _ < 8192; omega⟩) 0
      refine h1.trans ?_
      show off 0 + ((i 0).val - 8192 * q) = _
      omega

/-- The elements of the window of the counts' array are the quarter of the row. -/
theorem set_qDst {w q : ℕ} (off : Fin 2 → ℕ) (inb : ∀ a, off a + S1x8192.size a ≤ S32x32768.size a) (h0 : off 0 = w) (h1 : off 1 = 8192 * q) :
    (qDst off inb).view.set = qRow w q := by
  ext i
  rw [mem_qRow]
  constructor
  · intro hi
    obtain ⟨y, -, rfl⟩ := Finset.mem_map.mp hi
    obtain ⟨h2, h3⟩ := qDst_emb off inb y
    have h4 : (y 0).val < 8192 := (y 0).isLt
    omega
  · intro hi
    have hb : ∀ a : Fin 1, (i 1).val - 8192 * q < S8192.size a := fun a => by
      obtain rfl := Fin.eq_zero a
      show _ < 8192
      omega
    obtain ⟨h2, h3⟩ := qDst_emb off inb (fun a => ⟨(i 1).val - 8192 * q, hb a⟩)
    refine Finset.mem_map.mpr ⟨fun a => ⟨(i 1).val - 8192 * q, hb a⟩, Finset.mem_univ _, funext fun a => Fin.ext ?_⟩
    match a with
    | 0 => exact h2.trans (by omega)
    | 1 => refine h3.trans ?_
           show off 1 + ((i 1).val - 8192 * q) = _
           omega

variable [FloatOps F]

/-- The final counts of a task, as its row of the counts' array holds them. -/
def outOf (w : ℕ → ℕ) : S32x32768.Idx → Elt F .f32 := fun i => acc w 1600 fun a => ⟨(i 1).val, by obtain rfl := Fin.eq_zero a; exact (i 1).isLt⟩

section
variable (d : Dev nD) (c : Fin τ.nSC) (j : Fin τ.nSub)

/-- Where the counts' array is. -/
abbrev bLoc : Loc nD τ sig := (SparseCore.T d : Thread nD τ).loc main_v1
/-- Where the flattened indices are. -/
abbrev aLoc : Loc nD τ sig := (SparseCore.T d : Thread nD τ).loc main_v0

/-- What the copy of quarter `q` hands back: the row's quarter counted, and the counters' read share of the quarter. -/
def sent (wid : ℕ) (w : ℕ → ℕ) (q : ℕ) : sProp 𝕄 :=
  iprop((bLoc d ↦[qRow wid q]{fullShare} (outOf w : S32x32768.Idx → Elt F .f32)) ∗ cLoc d c j ↦[qSet q]{fullShare.right} (acc w 1600 : Cnt F))

instance sent_storable (wid : ℕ) (w : ℕ → ℕ) (q : ℕ) : Storable (upEmb : UEmb _ 𝕄) (sent (F := F) d c j wid w q) := by unfold sent; infer_instance

/-- What one write-out pays into its semaphore. -/
abbrev NQ : ℕ := 262144

/-- The write-outs' batch: `k` of them issued, `u` units waited for. -/
abbrev batch (wid : ℕ) (w : ℕ → ℕ) (k u : ℕ) : sProp 𝕄 :=
  Transfers.Batch (countersEmb (U := UU)) (V d c j) (.dma cc0_scratch2.sem) (none : HIx 1) NQ (fun t : Fin 4 => sent (F := F) d c j wid w t.val) k u

/-- The counters from a quarter on are that quarter and those from the next on. -/
theorem from_split (q : ℕ) : from_ q = qSet q ∪ from_ (q + 1) := by
  ext i; rw [Finset.mem_union, mem_from, mem_qSet, mem_from]; omega
/-- The two don't overlap. -/
theorem from_disj (q : ℕ) : Disjoint (qSet q) (from_ (q + 1)) :=
  Finset.disjoint_left.mpr fun i h1 h2 => by rw [mem_qSet] at h1; rw [mem_from] at h2; omega

/-- A quarter sent off: its counters are lent to the copy, the later ones stay writable. -/
theorem wp_send {α : Type} {Q : α → sProp 𝕄} (wid : ℕ) (w : ℕ → ℕ) {q : ℕ} (hq : q ≤ 3) (o₁ : Fin 1 → ℕ) (i₁ : ∀ a, o₁ a + S8192.size a ≤ S32768.size a)
    (o₂ : Fin 2 → ℕ) (i₂ : ∀ a, o₂ a + S1x8192.size a ≤ S32x32768.size a) (h₁ : o₁ 0 = 8192 * q) (h₂ : o₂ 0 = wid) (h₃ : o₂ 1 = 8192 * q)
    (fd : S32x32768.Idx → Elt F .f32) (hs : (qSrc o₁ i₁).view.WordExact) (hd : (qDst o₂ i₂).view.WordExact)
    (ht : DmaTarget.Typed (nD := nD) (p := (V d c j).2) .vmem (.dma cc0_scratch2.sem) (.here (qDst o₂ i₂)))
    (k : PUnit → Prog (TpuEff nD τ sig (Elt F) Λ₀ (V d c j).2) α) :
    iprop(held2 d c j (from_ q) (acc w (400 * (q + 1)) : Cnt F) ∗ (bLoc d ↦[qRow wid q]{fullShare} fd) ∗ batch d c j wid w q 0)
      ⊢ iprop((held2 d c j (from_ (q + 1)) (acc w (400 * (q + 1)) : Cnt F) -∗ batch d c j wid w (q + 1) 0
          -∗ wp frame (wpE defs₁ 𝒱₀ (V d c j) none) Set.univ (split (k ⟨⟩)) Q)
        -∗ wp frame (wpE defs₁ 𝒱₀ (V d c j) none) Set.univ (split (.op (.enqueueDma (qSrc o₁ i₁) (.here (nD := nD) (p := (V d c j).2) (qDst o₂ i₂)) (.dma cc0_scratch2.sem) hs hd ht) k)) Q) := by
  have he : split (.op (.enqueueDma (qSrc o₁ i₁) (.here (nD := nD) (p := (V d c j).2) (qDst o₂ i₂)) (.dma cc0_scratch2.sem) hs hd ht) k)
      = .op (.enqueueDma (qSrc o₁ i₁) (.here (nD := nD) (p := (V d c j).2) (qDst o₂ i₂)) (.dma cc0_scratch2.sem) hs hd ht) fun a => split (k a) := rfl
  rw [he]
  unfold held2
  rw [from_split q]
  have hD : iprop(((qDst o₂ i₂).view.loc (V d c j) ↦[qRow wid q]{fullShare} ((qDst o₂ i₂).view.write (Elt F) fd
        (ReadAs.same.apply ((qSrc o₁ i₁).view.read (Elt F) (acc w (400 * (q + 1)) : Cnt F))) Finset.univ))
      ∗ ((qSrc o₁ i₁).view.loc (V d c j) ↦[(qSrc o₁ i₁).view.set]{fullShare.right} (acc w (400 * (q + 1)) : Cnt F))) ⊢ (sent (F := F) d c j wid w q : sProp 𝕄) := by
    have hst : ∀ i : S32768.Idx, (i 0).val < 8192 * (q + 1) → acc (F := F) w (400 * (q + 1)) i = acc w 1600 i := fun i hi => by
      have := acc_stable (F := F) w (r := 8 * (q + 1)) (n := 1600) (by omega) i (by omega)
      rw [this]; congr 1; omega
    unfold sent
    refine sep_mono (Entails.of_eq (pointsTo_congr fun x hx => ?_)) (Entails.of_eq ?_)
    · rw [← set_qDst o₂ i₂ h₂ h₃] at hx
      obtain ⟨y, -, rfl⟩ := Finset.mem_map.mp hx
      refine (View.write_emb_of_mem (v := (qDst o₂ i₂).view) (Val := Elt F) fd _ (Finset.mem_univ y)).trans ?_
      obtain ⟨h4, h5⟩ := qDst_emb o₂ i₂ y
      have h6 := qSrc_emb o₁ i₁ y 0
      have h7 : (y 0).val < 8192 := (y 0).isLt
      refine (hst ((qSrc o₁ i₁).view.emb y) (by omega)).trans ?_
      refine congrArg (acc w 1600) (funext fun a => Fin.ext ?_)
      obtain rfl := Fin.eq_zero a
      refine h6.trans ?_
      show _ = ((qDst o₂ i₂).view.emb y 1).val
      omega
    · rw [set_qSrc o₁ i₁ h₁]
      exact pointsTo_congr fun x hx => hst x (mem_qSet.mp hx).2
  iintro ⟨⟨Hl, Hr⟩, Hb, HB⟩ Hk
  ihave Hr' := (pointsTo_union (from_disj q)).1 $$ Hr
  icases Hr' with ⟨Hs, Hr⟩
  ihave Hs' := (Entails.of_eq (congrArg (fun s => (cLoc d c j ↦[s]{fullShare.right} (acc w (400 * (q + 1)) : Cnt F) : sProp 𝕄)) (set_qSrc o₁ i₁ h₁).symm)) $$ Hs
  iapply (Transfers.wp_dmaBatch (defs := defs₁ (F := F)) (countersEmb (U := UU)) 𝒱₀ (V d c j) none (src := qSrc o₁ i₁) (dst := qDst o₂ i₂) (sm := .dma cc0_scratch2.sem)
    (n := 4) (D := fun t : Fin 4 => sent (F := F) d c j wid w t.val) (j := q) (u := 0) (none : HIx 1) NQ rfl (Sd := qRow wid q) (fd := fd)
    (fs := (acc w (400 * (q + 1)) : Cnt F)) (q := fullShare.right)
    (by rw [set_qDst o₂ i₂ h₂ h₃]) (by omega) (Nat.zero_le _) hD) $$ [Hs' Hb HB]
  · isplitl [Hs']; · iexact Hs'
    isplitl [Hb]; · iexact Hb
    iexact HB
  iintro HB
  iapply Hk $$ [Hl Hr] HB
  isplitl [Hl]; · iexact Hl
  iexact Hr

end

end Cert.Proof.KI
end
-- ==== Proof.Tile.lean ====
/-
  A task, run: its words fetched, the counters cleared, the rows counted a quarter at a time, each quarter sent off as soon as it
  is counted.
-/
module

public import proofs.«01_k».proof.Proof.Send

@[expose] public section

noncomputable section

namespace Cert.Proof.KI
open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Split (Whole split split_bind)

variable {F : FTy → Type} [FloatOps F]

local notation "𝕄" => MT nD τ sig (HIx 1) (Elt F) ℕ UU ℕ

variable (d : Dev nD) (L : grid0.Coords)

/-- The task's number, which is its row of the counts' array and its stretch of the words. -/
abbrev wid : ℕ := 2 * (L 1).val + (L 0).val

/-- Task `w`'s stretch of the words. -/
def aSet (w : ℕ) : Finset S51200.Idx := Finset.univ.filter fun i => 1600 * w ≤ (i 0).val ∧ (i 0).val < 1600 * (w + 1)
/-- Membership in a task's indices. -/
theorem mem_aSet {w : ℕ} {i : S51200.Idx} : i ∈ aSet w ↔ 1600 * w ≤ (i 0).val ∧ (i 0).val < 1600 * (w + 1) := by simp [aSet]

/-- Row `w` of the counts' array, from quarter `q` on. -/
def bFrom (w q : ℕ) : Finset S32x32768.Idx := Finset.univ.filter fun i => (i 0).val = w ∧ 8192 * q ≤ (i 1).val
/-- Membership in a row of the counts' array from a quarter on. -/
theorem mem_bFrom {w q : ℕ} {i : S32x32768.Idx} : i ∈ bFrom w q ↔ (i 0).val = w ∧ 8192 * q ≤ (i 1).val := by simp [bFrom]

/-- A row from a quarter on is that quarter and the row from the next on. -/
theorem bFrom_split (w q : ℕ) : bFrom w q = qRow w q ∪ bFrom w (q + 1) := by
  ext i; rw [Finset.mem_union, mem_bFrom, mem_qRow, mem_bFrom]; omega
/-- The two don't overlap. -/
theorem bFrom_disj (w q : ℕ) : Disjoint (qRow w q) (bFrom w (q + 1)) :=
  Finset.disjoint_left.mpr fun i h1 h2 => by rw [mem_qRow] at h1; rw [mem_bFrom] at h2; omega
/-- A row has four quarters. -/
theorem bFrom_last (w : ℕ) : bFrom w 4 = ∅ := Finset.eq_empty_of_forall_notMem fun i hi => by
  have h1 := mem_bFrom.mp hi
  have h2 : (i 1).val < 32768 := (i 1).isLt
  omega
/-- The counters have four quarters. -/
theorem from_last : from_ 4 = ∅ := Finset.eq_empty_of_forall_notMem fun i hi => by
  have h1 := mem_from.mp hi
  have h2 : (i 0).val < 32768 := (i 0).isLt
  omega
/-- The counters from the first quarter on are all of them. -/
theorem from_first : from_ 0 = Finset.univ := Finset.eq_univ_of_forall fun i => mem_from.mpr (by omega)

/-- A row by its quarters. -/
theorem row_quarters (w : ℕ) (f : S32x32768.Idx → Elt F .f32) :
    (bLoc d ↦[bFrom w 0]{fullShare} f : sProp 𝕄) ⊣⊢ iprop((bLoc d ↦[qRow w 0]{fullShare} f) ∗ (bLoc d ↦[qRow w 1]{fullShare} f)
      ∗ (bLoc d ↦[qRow w 2]{fullShare} f) ∗ (bLoc d ↦[qRow w 3]{fullShare} f)) := by
  have h (q : ℕ) : (bLoc d ↦[bFrom w q]{fullShare} f : sProp 𝕄) ⊣⊢ iprop((bLoc d ↦[qRow w q]{fullShare} f) ∗ bLoc d ↦[bFrom w (q + 1)]{fullShare} f) := by
    rw [bFrom_split]; exact pointsTo_union (bFrom_disj w q)
  have h3 : (bLoc d ↦[bFrom w 3]{fullShare} f : sProp 𝕄) ⊣⊢ bLoc d ↦[qRow w 3]{fullShare} f := by
    rw [bFrom_split, bFrom_last, Finset.union_empty]
  constructor
  · iintro H
    ihave H := (h 0).1 $$ H; icases H with ⟨H0, H⟩
    ihave H := (h 1).1 $$ H; icases H with ⟨H1, H⟩
    ihave H := (h 2).1 $$ H; icases H with ⟨H2, H⟩
    ihave H := h3.1 $$ H
    isplitl [H0]; · iexact H0
    isplitl [H1]; · iexact H1
    isplitl [H2]; · iexact H2
    iexact H
  · iintro ⟨H0, H1, H2, H3⟩
    ihave H := h3.2 $$ H3
    ihave H := (h 2).2 $$ [H2 H]; · isplitl [H2] <;> iassumption
    ihave H := (h 1).2 $$ [H1 H]; · isplitl [H1] <;> iassumption
    iapply (h 0).2
    isplitl [H0] <;> iassumption

/-- The counters' other half share, from its four quarters. -/
theorem quarters_join (c : Fin τ.nSC) (j : Fin τ.nSub) (f : Cnt F) :
    iprop((cLoc d c j ↦[qSet 0]{fullShare.right} f) ∗ (cLoc d c j ↦[qSet 1]{fullShare.right} f) ∗ (cLoc d c j ↦[qSet 2]{fullShare.right} f)
      ∗ (cLoc d c j ↦[qSet 3]{fullShare.right} f)) ⊢ (cLoc d c j ↦{fullShare.right} f : sProp 𝕄) := by
  have h (q : ℕ) : iprop((cLoc d c j ↦[qSet q]{fullShare.right} f) ∗ cLoc d c j ↦[from_ (q + 1)]{fullShare.right} f) ⊢ (cLoc d c j ↦[from_ q]{fullShare.right} f : sProp 𝕄) := by
    rw [from_split q]; exact (pointsTo_union (from_disj q)).2
  have h3 : (cLoc d c j ↦[qSet 3]{fullShare.right} f : sProp 𝕄) ⊢ cLoc d c j ↦[from_ 3]{fullShare.right} f := by
    rw [from_split, from_last, Finset.union_empty]
  have h0 : (cLoc d c j ↦[from_ 0]{fullShare.right} f : sProp 𝕄) ⊢ cLoc d c j ↦{fullShare.right} f := by rw [from_first]
  iintro ⟨H0, H1, H2, H3⟩
  ihave H := h3 $$ H3
  ihave H := (h 2) $$ [H2 H]; · isplitl [H2] <;> iassumption
  ihave H := (h 1) $$ [H1 H]; · isplitl [H1] <;> iassumption
  iapply h0
  iapply (h 0)
  isplitl [H0] <;> iassumption

/-- The words task `w` counts. -/
def tileIdx (fa : S51200.Idx → BitVec 32) (w : ℕ) : S1600.Idx → BitVec 32 := fun i =>
  fa fun a => ⟨(1600 * w + (i 0).val) % S51200.size a, Nat.mod_lt _ (by rw [Fin.eq_zero a]; decide)⟩

/-- A task's words name rows of the codebook if all words do. -/
theorem tileIdx_small {fa : S51200.Idx → BitVec 32} (h : ∀ i, (fa i).toNat < 1000) (w : ℕ) : Small (tileIdx fa w) := fun _ => h _

/-- The words' window. -/
abbrev aWin (off : Fin 1 → ℕ) (inb : ∀ a, off a + S1600.size a ≤ S51200.size a) : Memref sig .scVector .hbm S1600 .i32 :=
  aM.slice (Rect.unit (s := S51200) off S1600.size inb) (fun _ => rfl)

/-- The words' window places its element `y` that far behind its offset. -/
theorem aWin_emb (off : Fin 1 → ℕ) (inb : ∀ a, off a + S1600.size a ≤ S51200.size a) (y : S1600.Idx) (a : Fin 1) :
    ((aWin off inb).view.emb y a).val = off a + (y a).val := ValueKit.rect_emb_unit_val (s := S51200) off S1600.size inb y a

/-- The elements of the words' window are the task's indices. -/
theorem set_aWin {w : ℕ} (off : Fin 1 → ℕ) (inb : ∀ a, off a + S1600.size a ≤ S51200.size a) (h : off 0 = 1600 * w) : (aWin off inb).view.set = aSet w := by
  ext i
  rw [mem_aSet]
  constructor
  · intro hi
    obtain ⟨y, -, rfl⟩ := Finset.mem_map.mp hi
    have h1 := aWin_emb off inb y 0
    have h2 : (y 0).val < 1600 := (y 0).isLt
    omega
  · intro hi
    have hb : ∀ a : Fin 1, (i 0).val - 1600 * w < S1600.size a := fun a => by
      obtain rfl := Fin.eq_zero a
      show _ < 1600
      omega
    refine Finset.mem_map.mpr ⟨fun a => ⟨(i 0).val - 1600 * w, hb a⟩, Finset.mem_univ _, funext fun a => Fin.ext ?_⟩
    obtain rfl := Fin.eq_zero a
    refine (aWin_emb off inb (fun a => ⟨(i 0).val - 1600 * w, hb a⟩) 0).trans ?_
    show off 0 + ((i 0).val - 1600 * w) = _
    omega

/-- The words' window read is the task's words. -/
theorem read_aWin {w : ℕ} (hw : w < 32) (off : Fin 1 → ℕ) (inb : ∀ a, off a + S1600.size a ≤ S51200.size a) (h : off 0 = 1600 * w) (fa : S51200.Idx → BitVec 32) :
    (aWin off inb).view.read (Elt F) fa = tileIdx fa w := by
  funext y
  refine congrArg fa (funext fun a => Fin.ext ?_)
  obtain rfl := Fin.eq_zero a
  refine (aWin_emb off inb y 0).trans ?_
  have h2 : (y 0).val < 1600 := (y 0).isLt
  show off 0 + (y 0).val = (1600 * w + (y 0).val) % 51200
  omega

/-- What the fetch hands back: the index scratch at the task's words, and the words. -/
def fetched (fa : S51200.Idx → BitVec 32) : sProp 𝕄 :=
  iprop((iLoc d (cV L) (jV L) ↦{fullShare} (tileIdx fa (wid L) : S1600.Idx → BitVec 32)) ∗ aLoc d ↦[aSet (wid L)]{fullShare} fa)

/-- There are thirty-two tasks. -/
theorem wid_lt : wid L < 32 := by
  have h1 : (L 1).val < 16 := (L 1).isLt
  have h0 : (L 0).val < 2 := (L 0).isLt
  show 2 * _ + _ < 32
  omega

/-- The task's thread. -/
abbrev thr : Thread nD τ := V d (cV L) (jV L)

/-- The copy of a task's words is issued. -/
theorem wp_fetch {α : Type} {Q : α → sProp 𝕄} (fa : S51200.Idx → BitVec 32) (fs : S1600.Idx → BitVec 32) (inb : ∀ a, k0_off1 L a + S1600.size a ≤ S51200.size a)
    (hs : (aWin (k0_off1 L) inb).view.WordExact) (hd : iM.view.WordExact)
    (ht : DmaTarget.Typed (nD := nD) (p := (thr d L).2) .hbm (.dma cc0_scratch3.sem) (.here iM)) (k : PUnit → Prog (TpuEff nD τ sig (Elt F) Λ₀ (thr d L).2) α) :
    iprop((aLoc d ↦[aSet (wid L)]{fullShare} fa) ∗ (iLoc d (cV L) (jV L) ↦{fullShare} fs) ∗ semVal (thr d L, .dma cc0_scratch3.sem) 0)
      ⊢ iprop((Transfers.Flight (countersEmb (U := UU)) (thr d L) (.dma cc0_scratch3.sem) (none : HIx 1) 51200 (fetched (F := F) d L fa)
          -∗ wp frame (wpE defs₁ 𝒱₀ (thr d L) none) Set.univ (split (k ⟨⟩)) Q)
        -∗ wp frame (wpE defs₁ 𝒱₀ (thr d L) none) Set.univ
          (split (.op (.enqueueDma (aWin (k0_off1 L) inb) (.here (nD := nD) (p := (thr d L).2) iM) (.dma cc0_scratch3.sem) hs hd ht) k)) Q) := by
  have he : split (.op (.enqueueDma (aWin (k0_off1 L) inb) (.here (nD := nD) (p := (thr d L).2) iM) (.dma cc0_scratch3.sem) hs hd ht) k)
      = .op (.enqueueDma (aWin (k0_off1 L) inb) (.here (nD := nD) (p := (thr d L).2) iM) (.dma cc0_scratch3.sem) hs hd ht) fun a => split (k a) := rfl
  have h0 : k0_off1 L 0 = 1600 * wid L := by
    rw [k0_off1_eq]; show 3200 * (L 1).val + 1600 * (L 0).val = 1600 * (2 * (L 1).val + (L 0).val); omega
  rw [he]
  have hD : fetched (F := F) d L fa = iprop((iM.view.loc (thr d L) ↦[Finset.univ]{fullShare} (iM.view.write (Elt F) fs
        (ReadAs.same.apply ((aWin (k0_off1 L) inb).view.read (Elt F) fa)) Finset.univ))
      ∗ ((aWin (k0_off1 L) inb).view.loc (thr d L) ↦[(aWin (k0_off1 L) inb).view.set]{fullShare} fa)) := by
    unfold fetched
    rw [set_aWin _ inb h0]
    have : iM.view.write (Elt F) fs (ReadAs.same.apply ((aWin (k0_off1 L) inb).view.read (Elt F) fa)) Finset.univ = tileIdx fa (wid L) :=
      (View.write_whole_univ _ _ _).trans (read_aWin (F := F) (wid_lt L) _ inb h0 fa)
    rw [this]
  rw [hD, ← set_aWin _ inb h0]
  exact Transfers.wp_dmaLocal (defs := defs₁ (F := F)) (countersEmb (U := UU)) 𝒱₀ (thr d L) none (src := aWin (k0_off1 L) inb) (via := ReadAs.same) (dst := iM)
    (sm := .dma cc0_scratch3.sem) (q := fullShare) (fs := fa) (Sd := Finset.univ) (fd := fs) (k := fun a => split (k a)) (none : HIx 1) 51200 rfl (by decide) (Finset.subset_univ _)

/-- The waits' evidence, whatever the task owes. -/
theorem may {O : CellTallies nD τ sig (HIx 1)} (hO : ∀ g, O g none = 0) (sm : SemLoc sig) :
    (levAts (K (F := F)).L (K (F := F)).lev : sProp 𝕄) ⊢ MayWait (thr d L) sm none O := (K (F := F)).mayWait_none sm hO

/-- The wait for a task's words: the index scratch holds them. -/
theorem wp_fetched {α : Type} {Q : α → sProp 𝕄} (fa : S51200.Idx → BitVec 32) (src : Memref sig .scVector .hbm S1600 .i32) (hs : src.view.WordExact) (hd : iM.view.WordExact)
    {O : CellTallies nD τ sig (HIx 1)} {W : Waits sig (HIx 1)} (k : PUnit → Prog (TpuEff nD τ sig (Elt F) Λ₀ (thr d L).2) α) :
    iprop(Transfers.Flight (countersEmb (U := UU)) (thr d L) (.dma cc0_scratch3.sem) (none : HIx 1) 51200 (fetched (F := F) d L fa) ∗ owes (thr d L) O W
        ∗ MayWait (thr d L) (.dma cc0_scratch3.sem) none O)
      ⊢ iprop((fetched d L fa -∗ semVal (thr d L, .dma cc0_scratch3.sem) 0 -∗ owes (thr d L) O (insert (SemLoc.dma cc0_scratch3.sem, none) W)
          -∗ wp frame (wpE defs₁ 𝒱₀ (thr d L) none) Set.univ (split (k ⟨⟩)) Q)
        -∗ wp frame (wpE defs₁ 𝒱₀ (thr d L) none) Set.univ (split (.op (.waitDma2 cc0_scratch3.sem src iM hs hd) k)) Q) := by
  have he : (split (.op (.waitDma2 cc0_scratch3.sem src iM hs hd) k) : Prog (TpuEff nD τ sig (Elt F) Λ₀ (thr d L).2) α) = .op (.waitDma2 cc0_scratch3.sem src iM hs hd) fun a => split (k a) := rfl
  rw [he]
  iintro H Hk
  iapply (Transfers.wp_waitLocalO (defs := defs₁ (F := F)) (countersEmb (U := UU)) 𝒱₀ (thr d L) none (none : HIx 1) (N := 51200) rfl) $$ H
  iintro ⟨H1, H2, H3⟩
  iapply Hk $$ H1 H2 H3

/-- A wait for a write-out that isn't the last. -/
theorem wp_sent {α : Type} {Q : α → sProp 𝕄} (n : ℕ) (w : ℕ → ℕ) {u : ℕ} (hu : u + NQ < NQ * 4) (src : Memref sig .scVector .vmem S8192 .f32) (o : Fin 2 → ℕ)
    (inb : ∀ a, o a + S1x8192.size a ≤ S32x32768.size a) (hs : src.view.WordExact) (hd : (qDst o inb).view.WordExact)
    {O : CellTallies nD τ sig (HIx 1)} {W : Waits sig (HIx 1)} (k : PUnit → Prog (TpuEff nD τ sig (Elt F) Λ₀ (thr d L).2) α) :
    iprop(batch (F := F) d (cV L) (jV L) n w 4 u ∗ owes (thr d L) O W ∗ MayWait (thr d L) (.dma cc0_scratch2.sem) none O)
      ⊢ iprop((batch d (cV L) (jV L) n w 4 (u + NQ) -∗ owes (thr d L) O (insert (SemLoc.dma cc0_scratch2.sem, none) W)
          -∗ wp frame (wpE defs₁ 𝒱₀ (thr d L) none) Set.univ (split (k ⟨⟩)) Q)
        -∗ wp frame (wpE defs₁ 𝒱₀ (thr d L) none) Set.univ (split (.op (.waitDma2 cc0_scratch2.sem src (qDst o inb) hs hd) k)) Q) := by
  have he : (split (.op (.waitDma2 cc0_scratch2.sem src (qDst o inb) hs hd) k) : Prog (TpuEff nD τ sig (Elt F) Λ₀ (thr d L).2) α) = .op (.waitDma2 cc0_scratch2.sem src (qDst o inb) hs hd) fun a => split (k a) := rfl
  rw [he]
  iintro H Hk
  iapply (Transfers.wp_waitBatchO (defs := defs₁ (F := F)) (countersEmb (U := UU)) 𝒱₀ (thr d L) none (none : HIx 1) (N := NQ) rfl hu) $$ H
  iintro ⟨H1, H2⟩
  iapply Hk $$ H1 H2

/-- The last wait: the row of the counts' array holds the counts, and the counters are free again. -/
theorem wp_sentLast {α : Type} {Q : α → sProp 𝕄} (n : ℕ) (w : ℕ → ℕ) {u : ℕ} (hu : u + NQ = NQ * 4) (src : Memref sig .scVector .vmem S8192 .f32) (o : Fin 2 → ℕ)
    (inb : ∀ a, o a + S1x8192.size a ≤ S32x32768.size a) (hs : src.view.WordExact) (hd : (qDst o inb).view.WordExact)
    {O : CellTallies nD τ sig (HIx 1)} {W : Waits sig (HIx 1)} (k : PUnit → Prog (TpuEff nD τ sig (Elt F) Λ₀ (thr d L).2) α) :
    iprop(batch (F := F) d (cV L) (jV L) n w 4 u ∗ owes (thr d L) O W ∗ MayWait (thr d L) (.dma cc0_scratch2.sem) none O)
      ⊢ iprop(((bLoc d ↦[bFrom n 0]{fullShare} (outOf w : S32x32768.Idx → Elt F .f32)) -∗ (cLoc d (cV L) (jV L) ↦{fullShare.right} (acc w 1600 : Cnt F))
          -∗ semVal (thr d L, .dma cc0_scratch2.sem) 0 -∗ owes (thr d L) O (insert (SemLoc.dma cc0_scratch2.sem, none) W)
          -∗ wp frame (wpE defs₁ 𝒱₀ (thr d L) none) Set.univ (split (k ⟨⟩)) Q)
        -∗ wp frame (wpE defs₁ 𝒱₀ (thr d L) none) Set.univ (split (.op (.waitDma2 cc0_scratch2.sem src (qDst o inb) hs hd) k)) Q) := by
  have he : (split (.op (.waitDma2 cc0_scratch2.sem src (qDst o inb) hs hd) k) : Prog (TpuEff nD τ sig (Elt F) Λ₀ (thr d L).2) α) = .op (.waitDma2 cc0_scratch2.sem src (qDst o inb) hs hd) fun a => split (k a) := rfl
  rw [he]
  have hb : bigSep Finset.univ (fun t : Fin 4 => sent (F := F) d (cV L) (jV L) n w t.val)
      = iprop(sent (F := F) d (cV L) (jV L) n w 0 ∗ sent (F := F) d (cV L) (jV L) n w 1 ∗ sent (F := F) d (cV L) (jV L) n w 2 ∗ sent (F := F) d (cV L) (jV L) n w 3) := by
    rw [Idealize.SL.BI.bigSep_univ_eq_bigSepL [0, 1, 2, 3] (by decide) (by decide) _]
    rfl
  iintro H Hk
  iapply (Transfers.wp_waitBatchLastO (defs := defs₁ (F := F)) (countersEmb (U := UU)) 𝒱₀ (thr d L) none (none : HIx 1) (N := NQ) rfl (by decide) hu) $$ H
  iintro ⟨H1, H2, H3⟩
  ihave H1 := (Entails.of_eq hb) $$ H1
  unfold sent
  icases H1 with ⟨⟨Hb0, Hc0⟩, ⟨Hb1, Hc1⟩, ⟨Hb2, Hc2⟩, ⟨Hb3, Hc3⟩⟩
  iapply Hk $$ [Hb0 Hb1 Hb2 Hb3] [Hc0 Hc1 Hc2 Hc3] H2 H3
  · iapply (row_quarters d n _).2
    isplitl [Hb0]; · iexact Hb0
    isplitl [Hb1]; · iexact Hb1
    isplitl [Hb2] <;> iassumption
  · iapply (quarters_join d (cV L) (jV L) _)
    isplitl [Hc0]; · iexact Hc0
    isplitl [Hc1]; · iexact Hc1
    isplitl [Hc2] <;> iassumption

/-- The task's two semaphores among its own, at zero. -/
theorem ownSems0_task :
    (SparseCore.Cfg.ownSems0 (thr d L) : sProp 𝕄)
      = iprop(semVal (thr d L, .dma cc0_scratch2.sem) 0 ∗ semVal (thr d L, .dma cc0_scratch3.sem) 0
          ∗ bigSep (((SparseCore.Cfg.ownCells (thr d L)).erase (thr d L, .dma cc0_scratch2.sem)).erase (thr d L, .dma cc0_scratch3.sem)) fun g => semVal g 0) := by
  unfold SparseCore.Cfg.ownSems0
  rw [SparseCore.bigSep_erase' ((SparseCore.Cfg.mem_ownCells (g := (thr d L, .dma cc0_scratch2.sem))).mpr ⟨rfl, by
      show (SemLoc.dma cc0_scratch2.sem : SemLoc sig).isScoped .scVector = true; decide⟩),
    SparseCore.bigSep_erase' (Finset.mem_erase.mpr ⟨fun h => absurd (congrArg Prod.snd h) (by show ¬ (SemLoc.dma cc0_scratch3.sem : SemLoc sig) = SemLoc.dma cc0_scratch2.sem; decide),
      (SparseCore.Cfg.mem_ownCells (g := (thr d L, .dma cc0_scratch3.sem))).mpr ⟨rfl, by
        show (SemLoc.dma cc0_scratch3.sem : SemLoc sig).isScoped .scVector = true; decide⟩⟩)]

/-- The task's two scratch buffers among its own, at some contents. -/
theorem ownBufs_task :
    (SparseCore.Cfg.ownBufs (thr d L) : sProp 𝕄)
      = iprop((∃ f, iLoc d (cV L) (jV L) ↦{fullShare} f) ∗ (∃ f, cLoc d (cV L) (jV L) ↦{fullShare} f)
          ∗ bigSep (((SparseCore.Cfg.ownRefs (τ := τ) (.scVector (cV L) (jV L))).erase ((Proc.scVector (cV L) (jV L)).devRef cc0_scratch0)).erase
              ((Proc.scVector (cV L) (jV L)).devRef cc0_scratch1)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

abbrev task : Prog (TpuEff nD τ sig (Elt F) Λ₀ (thr d L).2) PUnit :=
  cc0_k L aM (Memref.isWhole_whole _) bM (Memref.isWhole_whole _) iM (Memref.isWhole_whole _) cM (Memref.isWhole_whole _) cc0_scratch2 cc0_scratch3

/-- What task `n` leaves: its words as they were, its row counted. -/
def done (fa : S51200.Idx → BitVec 32) (n : ℕ) : sProp 𝕄 :=
  iprop((aLoc d ↦[aSet n]{fullShare} fa) ∗ bLoc d ↦[bFrom n 0]{fullShare} (outOf (word (tileIdx fa n)) : S32x32768.Idx → Elt F .f32))

section
variable (c : Fin τ.nSC) (j : Fin τ.nSub) (g : S1600.Idx → BitVec 32)

/-- Nothing counted yet. -/
theorem rows_start : iprop((iLoc d c j ↦{fullShare} g) ∗ (cLoc d c j ↦{fullShare.left} (fun _ => zero : Cnt F)) ∗ cLoc d c j ↦{fullShare.right} (fun _ => zero : Cnt F))
    ⊢ (rowsInv d c j g 0 0 : sProp 𝕄) := by
  unfold rowsInv held2
  rw [from_first]
  exact .rfl

/-- A quarter counted. -/
theorem rows_done (q : ℕ) : rowsInv d c j g q 8 ⊢ (iprop((iLoc d c j ↦{fullShare} g) ∗ held2 d c j (from_ q) (acc (word g) (400 * (q + 1)) : Cnt F)) : sProp 𝕄) := by
  unfold rowsInv
  rw [show 50 * (8 * q + 8) = 400 * (q + 1) by omega]

/-- Its copy begun, the next quarter's rows. -/
theorem rows_next (q : ℕ) : iprop((iLoc d c j ↦{fullShare} g) ∗ held2 d c j (from_ (q + 1)) (acc (word g) (400 * (q + 1)) : Cnt F)) ⊢ (rowsInv d c j g (q + 1) 0 : sProp 𝕄) := by
  unfold rowsInv
  rw [show 50 * (8 * (q + 1) + 0) = 400 * (q + 1) by omega]

/-- Every copy landed, the counters whole again. -/
theorem held2_join (w : ℕ → ℕ) : iprop(held2 d c j (from_ (3 + 1)) (acc w (400 * (3 + 1)) : Cnt F) ∗ cLoc d c j ↦{fullShare.right} (acc w 1600 : Cnt F))
    ⊢ (cLoc d c j ↦{fullShare} (acc w 1600 : Cnt F) : sProp 𝕄) := by
  unfold held2
  iintro ⟨⟨Hl, -⟩, Hr⟩
  iapply (pointsTo_share (PosShare.mem_left_op_right fullShare)).2
  isplitl [Hl] <;> iassumption

end

/-- The first write-out goes to the task's row. -/
theorem off7_0 : k0_off7 L 0 = wid L := by rw [k0_off7_eq]; rfl
/-- The first write-out goes to the first quarter. -/
theorem off7_1 : k0_off7 L 1 = 8192 * 0 := by rw [k0_off7_eq]; rfl
/-- The second write-out goes to the task's row. -/
theorem off12_0 : k0_off12 L 0 = wid L := by rw [k0_off12_eq]; rfl
/-- The second write-out goes to the second quarter. -/
theorem off12_1 : k0_off12 L 1 = 8192 * 1 := by rw [k0_off12_eq]; rfl
/-- The third write-out goes to the task's row. -/
theorem off17_0 : k0_off17 L 0 = wid L := by rw [k0_off17_eq]; rfl
/-- The third write-out goes to the third quarter. -/
theorem off17_1 : k0_off17 L 1 = 8192 * 2 := by rw [k0_off17_eq]; rfl
/-- The fourth write-out goes to the task's row. -/
theorem off22_0 : k0_off22 L 0 = wid L := by rw [k0_off22_eq]; rfl
/-- The fourth write-out goes to the fourth quarter. -/
theorem off22_1 : k0_off22 L 1 = 8192 * 3 := by rw [k0_off22_eq]; rfl

/-- A task, run: from its indices and its row of the counts' array to the row at its counts, every semaphore back at zero. -/
theorem tile_body (fa : S51200.Idx → BitVec 32) (hfa : ∀ i, (fa i).toNat < 1000) (fb : S32x32768.Idx → Elt F .f32) (O : CellTallies nD τ sig (HIx 1))
    (W : Waits sig (HIx 1)) (hO : ∀ g, O g none = 0) :
    iprop(levAts (K (F := F)).L (K (F := F)).lev ∗ ((aLoc d ↦[aSet (wid L)]{fullShare} fa) ∗ bLoc d ↦[bFrom (wid L) 0]{fullShare} fb)
        ∗ scopedBufs (thr d L) ∗ scopedSems0 (thr d L) ∗ owes (thr d L) O W)
      ⊢ wp frame (wpE (defs₁ (F := F)) 𝒱₀ (thr d L) none) Set.univ (split (task d L))
          fun _ => iprop(done d fa (wid L) ∗ scopedBufs (thr d L) ∗ scopedSems0 (thr d L)
            ∗ ∃ W', ⌜∀ p ∈ W', p ∈ W ∨ p.2 = none⌝ ∗ owes (thr d L) O W') := by
  unfold task
  rw [cc0_k_eq_skeleton]; unfold cc0_k_skel
  rw [k0_part3_eq_skeleton, k0_part4_eq_skeleton]; unfold k0_part3_skel k0_part4_skel
  simp only [Prog.lift, Prog.bind_op, Prog.bind_ret, Prog.pure_eq_ret, bind_assoc]
  rw [(K (F := F)).scopedBufs_V facts d (cV L) (jV L), SparseCore.Cfg.scopedSems0_V (Val := Elt F) d (cV L) (jV L), ownSems0_task, ownBufs_task]
  iintro ⟨#Hlv, ⟨Ha, Hb⟩, ⟨⟨%fs, Hi⟩, ⟨%fc, Hc⟩, Hbufs⟩, ⟨Hq, Hf, Hsems⟩, HO⟩
  -- the words' fetch, in flight while the counters are cleared
  iapply (wp_fetch d L fa fs) $$ [Ha Hi Hf]
  · isplitl [Ha]; · iexact Ha
    isplitl [Hi] <;> iassumption
  iintro Hf
  iapply (wp_clear d (cV L) (jV L) _ (fun t a => t1_eq d L t a) _ fc) $$ Hc
  iintro %_ Hc
  iapply (wp_fetched d L fa) $$ [Hf HO]
  · isplitl [Hf]; · iexact Hf
    isplitl [HO]; · iexact HO
    iapply (may d L hO); iexact Hlv
  iintro Hf Hsf HO
  unfold fetched
  icases Hf with ⟨Hi, Ha⟩
  have hg := tileIdx_small hfa (wid L)
  obtain ⟨g, hgd⟩ : ∃ g, tileIdx fa (wid L) = g := ⟨_, rfl⟩
  have hdone : done (F := F) d fa (wid L) = iprop((aLoc d ↦[aSet (wid L)]{fullShare} fa) ∗ bLoc d ↦[bFrom (wid L) 0]{fullShare} (outOf (word g) : S32x32768.Idx → Elt F .f32)) := by
    unfold done; rw [hgd]
  rw [hdone, hgd]
  rw [hgd] at hg
  imod (Transfers.batch_alloc' (countersEmb (U := UU)) (thr d L) (none : HIx 1) NQ (fun t : Fin 4 => sent (F := F) d (cV L) (jV L) (wid L) (word g) t.val)
    (sm := .dma cc0_scratch2.sem) (E := Set.univ)) $$ Hq with HB
  ihave Hb := (row_quarters d (wid L) fb).1 $$ Hb
  icases Hb with ⟨Hb0, Hb1, Hb2, Hb3⟩
  ihave Hc := (pointsTo_share (PosShare.mem_left_op_right fullShare)).1 $$ Hc
  icases Hc with ⟨Hcl, Hcr⟩
  ihave HR := (rows_start d (cV L) (jV L) g) $$ [Hi Hcl Hcr]
  · isplitl [Hi]; · iexact Hi
    isplitl [Hcl] <;> iassumption
  -- a quarter of the rows counted, then its copy begun
  iapply (wp_rows d (cV L) (jV L) hg (q := 0) (by decide) _ _ _ _ (by decide) _ (fun t a => t2_ok d L t a) _) $$ HR
  iintro %_ HR
  ihave HR := (rows_done d (cV L) (jV L) g 0) $$ HR
  icases HR with ⟨Hi, Hc⟩
  iapply (wp_send d (cV L) (jV L) (wid L) (word g) (q := 0) (by decide) _ _ _ _ rfl (off7_0 L) (off7_1 L) fb) $$ [Hc Hb0 HB]
  · isplitl [Hc]; · iexact Hc
    isplitl [Hb0] <;> iassumption
  iintro Hc HB
  ihave HR := (rows_next d (cV L) (jV L) g 0) $$ [Hi Hc]; · isplitl [Hi] <;> iassumption
  iapply (wp_rows d (cV L) (jV L) hg (q := 1) (by decide) _ _ _ _ (by decide) _ (fun t a => t3_ok d L t a) _) $$ HR
  iintro %_ HR
  ihave HR := (rows_done d (cV L) (jV L) g 1) $$ HR
  icases HR with ⟨Hi, Hc⟩
  iapply (wp_send d (cV L) (jV L) (wid L) (word g) (q := 1) (by decide) _ _ _ _ rfl (off12_0 L) (off12_1 L) fb) $$ [Hc Hb1 HB]
  · isplitl [Hc]; · iexact Hc
    isplitl [Hb1] <;> iassumption
  iintro Hc HB
  ihave HR := (rows_next d (cV L) (jV L) g 1) $$ [Hi Hc]; · isplitl [Hi] <;> iassumption
  iapply (wp_rows d (cV L) (jV L) hg (q := 2) (by decide) _ _ _ _ (by decide) _ (fun t a => t4_ok d L t a) _) $$ HR
  iintro %_ HR
  ihave HR := (rows_done d (cV L) (jV L) g 2) $$ HR
  icases HR with ⟨Hi, Hc⟩
  iapply (wp_send d (cV L) (jV L) (wid L) (word g) (q := 2) (by decide) _ _ _ _ rfl (off17_0 L) (off17_1 L) fb) $$ [Hc Hb2 HB]
  · isplitl [Hc]; · iexact Hc
    isplitl [Hb2] <;> iassumption
  iintro Hc HB
  ihave HR := (rows_next d (cV L) (jV L) g 2) $$ [Hi Hc]; · isplitl [Hi] <;> iassumption
  iapply (wp_rows d (cV L) (jV L) hg (q := 3) (by decide) _ _ _ _ (by decide) _ (fun t a => t5_ok d L t a) _) $$ HR
  iintro %_ HR
  ihave HR := (rows_done d (cV L) (jV L) g 3) $$ HR
  icases HR with ⟨Hi, Hc⟩
  iapply (wp_send d (cV L) (jV L) (wid L) (word g) (q := 3) (by decide) _ _ _ _ rfl (off22_0 L) (off22_1 L) fb) $$ [Hc Hb3 HB]
  · isplitl [Hc]; · iexact Hc
    isplitl [Hb3] <;> iassumption
  iintro Hc HB
  -- the four waits: the last hands every quarter back
  iapply (wp_sent d L (wid L) (word g) (u := 0) (by decide)) $$ [HB HO]
  · isplitl [HB]; · iexact HB
    isplitl [HO]; · iexact HO
    iapply (may d L hO); iexact Hlv
  iintro HB HO
  iapply (wp_sent d L (wid L) (word g) (u := 0 + NQ) (by decide)) $$ [HB HO]
  · isplitl [HB]; · iexact HB
    isplitl [HO]; · iexact HO
    iapply (may d L hO); iexact Hlv
  iintro HB HO
  iapply (wp_sent d L (wid L) (word g) (u := 0 + NQ + NQ) (by decide)) $$ [HB HO]
  · isplitl [HB]; · iexact HB
    isplitl [HO]; · iexact HO
    iapply (may d L hO); iexact Hlv
  iintro HB HO
  iapply (wp_sentLast d L (wid L) (word g) (u := 0 + NQ + NQ + NQ) (by decide)) $$ [HB HO]
  · isplitl [HB]; · iexact HB
    isplitl [HO]; · iexact HO
    iapply (may d L hO); iexact Hlv
  iintro Hb Hcr Hsq HO
  iapply (wp_done d (cV L) (jV L))
  isplitl [Ha Hb]
  · isplitl [Ha] <;> iassumption
  isplitl [Hi Hc Hcr Hbufs]
  · isplitl [Hi]
    · iexists _; iexact Hi
    isplitl [Hc Hcr]
    · iexists _
      iapply (held2_join d (cV L) (jV L) (word g))
      isplitl [Hc] <;> iassumption
    iexact Hbufs
  isplitl [Hsq Hsf Hsems]
  · isplitl [Hsq]; · iexact Hsq
    isplitl [Hsf] <;> iassumption
  iexists (insert (SemLoc.dma cc0_scratch2.sem, none) (insert (SemLoc.dma cc0_scratch2.sem, none) (insert (SemLoc.dma cc0_scratch2.sem, none)
    (insert (SemLoc.dma cc0_scratch2.sem, none) (insert (SemLoc.dma cc0_scratch3.sem, none) W)))))
  isplitr
  · ipureintro; intro p hp
    simp only [Finset.mem_insert] at hp
    rcases hp with rfl | rfl | rfl | rfl | rfl | hp
    iterate 5 exact .inr rfl
    exact .inl hp
  iexact HO
end Cert.Proof.KI
end
-- ==== Proof.Launch.lean ====
/-
  What the SparseCore call hands each task and takes back, and the launch's obligations met from a task's proof; the
  two arrays cut among the thirty-two tasks and joined again.
-/
module

public import proofs.«01_k».proof.Proof.Tile
public import proofs.«01_k».proof.Proof.Table

@[expose] public section

noncomputable section

namespace Cert.Proof.KI
open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Split (Whole split split_bind)

variable {F : FTy → Type} [FloatOps F]

local notation "𝕄" => MT nD τ sig (HIx 1) (Elt F) ℕ UU ℕ

/-- The number of the task on subcore `i` of SparseCore `c`: its row of the counts. -/
abbrev num (c i : ℕ) : ℕ := 2 * i + c

/-- What a task is handed: its indices and its row of the counts' array, the latter at whatever it holds. -/
def given (d : Dev nD) (fa : S51200.Idx → BitVec 32) (fb : S32x32768.Idx → Elt F .f32) (n : ℕ) : sProp 𝕄 :=
  iprop((aLoc d ↦[aSet n]{fullShare} fa) ∗ bLoc d ↦[bFrom n 0]{fullShare} fb)

/-- What a task is handed may travel through a handshake. -/
instance given_storable (d : Dev nD) (fa : S51200.Idx → BitVec 32) (fb : S32x32768.Idx → Elt F .f32) (n : ℕ) :
    BI.Storable (upEmb : UEmb _ 𝕄) (given d fa fb n) := by unfold given; infer_instance
/-- What a task hands back may travel through a handshake. -/
instance done_storable (d : Dev nD) (fa : S51200.Idx → BitVec 32) (n : ℕ) :
    BI.Storable (upEmb : UEmb _ 𝕄) (done d fa n) := by unfold done; infer_instance

variable (fa : Dev nD → S51200.Idx → BitVec 32) (fb : Dev nD → S32x32768.Idx → Elt F .f32)

/-- The call's payloads: each task's share, a SparseCore's the sixteen of its subcores. -/
def P : (K (F := F)).Pay (nD := nD) (Val := Elt F) (Name := ℕ) (U := UU) where
  st := fun q d c => bigSep Finset.univ fun i : Fin ((K (F := F)).nSub q) => given d (fa d) (fb d) (num c.val i.val)
  dn := fun q d c => bigSep Finset.univ fun i : Fin ((K (F := F)).nSub q) => done d (fa d) (num c.val i.val)
  go := fun _ d c i => given d (fa d) (fb d) (num c.val i.val)
  td := fun _ d c i => done d (fa d) (num c.val i.val)
  x := fun _ _ => iprop(emp)

/-- The call's payloads may travel through the handshakes. -/
instance P_storable : (P (F := F) fa fb).IsStorable where
  st _ d c := by unfold P; infer_instance
  dn _ d c := by unfold P; infer_instance
  go _ d c i := by unfold P; infer_instance
  td _ d c i := by unfold P; infer_instance

/-- What a SparseCore is handed is what its sixteen tasks are handed, and the same on the way back. -/
theorem vecSplit : (K (F := F)).VecSplit' (P fa fb) 0 := by
  intro d c
  unfold P; dsimp only
  iintro H; imodintro
  isplitl [H]; · iexact H
  iintro H; iexact H

/-- A task's grid coordinates. -/
def coords (c : Fin (grid0.bound 0)) (s : Fin (grid0.bound 1)) : grid0.Coords :=
  fun | 0 => c | 1 => s | ⟨_ + 2, h⟩ => absurd h (Nat.not_lt.2 (Nat.le_add_left _ _))

/-- The table's entry for a tile: its task, taken apart. -/
theorem defs₁_vector (c : Fin τ.nSC) (s : Fin τ.nSub) :
    defs₁ (F := F) (.scVector c s) 0 ()
      = split (SparseCore.onTile hcore0 hsub0 (fun c s => cc0_k (coords c s) aM (Memref.isWhole_whole _) bM (Memref.isWhole_whole _)
          iM (Memref.isWhole_whole _) cM (Memref.isWhole_whole _) cc0_scratch2 cc0_scratch3) ⟨⟩ c s) := rfl

omit [FloatOps F] in
/-- The waits a task did may be counted among those the launch allows it. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
/-- An empty resource is dropped. -/
theorem drop_emp (A X : sProp 𝕄) : iprop(A ∗ emp ∗ X) ⊢ iprop(A ∗ X) := by
  iintro ⟨HA, -, HX⟩
  isplitl [HA] <;> iassumption

/-- The launch's obligation for the tasks, met by one task's run at a symbolic place. -/
theorem tileObl (hfa : ∀ d i, (fa d i).toNat < 1000) : (K (F := F)).TileObl (D (F := F)) 𝒱 (P fa fb) v₀ 0 := by
  intro d c i O W hO _ _
  simp only [show (P (F := F) fa fb).ox = fun _ _ => 0 from rfl, add_zero]
  change _ ⊢ wp _ _ _ (Pipeline.liftProg (defs₁ (F := F) (.scVector ((K (F := F)).core 0 c) ((K (F := F)).sub 0 i)) 0 ())) _
  refine BI.Entails.trans ?_ (Pipeline.wp_liftProg (D (F := F)) (Pipeline.defs_kernel pcfgs defs₁) 𝒱₀ _ Set.univ none _ _)
  have hc : ((K (F := F)).core 0 c).val < grid0.bound 0 ∧ ((K (F := F)).sub 0 i).val < grid0.bound 1 := ⟨c.isLt, i.isLt⟩
  rw [defs₁_vector]; simp only [SparseCore.onTile, hc, and_self, ↓reduceDIte]
  exact (drop_emp _ _).trans ((tile_body d (coords ⟨_, hc.1⟩ ⟨_, hc.2⟩) (fa d) (hfa d) (fb d) O W hO).trans (wp_mono frame _ _ fun _ => obl_post))

/-! ## The two arrays cut among the tasks -/

/-- An array in the thirty-two tasks' parts is the array: its elements divided by the task each belongs to. -/
theorem cut {ℓ : Loc nD τ sig} (A : ℕ → Finset (Idx ℓ)) (owner : Idx ℓ → ℕ) (hA : ∀ n i, i ∈ A n ↔ owner i = n) (ho : ∀ i, owner i < 32)
    (f : Buf (Elt F) ℓ) :
    (ℓ ↦{fullShare} f : sProp 𝕄)
      = bigSep Finset.univ fun c : Fin 2 => bigSep Finset.univ fun i : Fin 16 => ℓ ↦[A (num c.val i.val)]{fullShare} f := by
  have hi (c : Fin 2) : (bigSep Finset.univ fun i : Fin 16 => (ℓ ↦[A (num c.val i.val)]{fullShare} f : sProp 𝕄))
      = ℓ ↦[Finset.univ.biUnion fun i : Fin 16 => A (num c.val i.val)]{fullShare} f :=
    (pointsTo_biUnion Finset.univ _ fun i _ j _ h => Finset.disjoint_left.mpr fun x h1 h2 => h (Fin.ext (by
      rw [hA] at h1 h2; dsimp only [num] at h1 h2; omega))).symm
  rw [bigSep_congr fun c _ => hi c, ← pointsTo_biUnion Finset.univ _ fun a _ b _ h => Finset.disjoint_left.mpr fun x h1 h2 => h (Fin.ext (by
      simp only [Finset.mem_biUnion, Finset.mem_univ, _root_.true_and, hA] at h1 h2
      obtain ⟨i, h1⟩ := h1; obtain ⟨j, h2⟩ := h2; have := a.isLt; have := b.isLt; dsimp only [num] at h1 h2; omega))]
  congr 1
  ext x
  simp only [Finset.mem_biUnion, Finset.mem_univ, _root_.true_and, true_iff, hA]
  have := ho x
  exact ⟨⟨owner x % 2, by omega⟩, ⟨owner x / 2, by omega⟩, by show owner x = 2 * (owner x / 2) + owner x % 2; omega⟩

/-- The flattened indices, cut among the thirty-two tasks. -/
theorem a_cut (d : Dev nD) (f : S51200.Idx → BitVec 32) :
    (aLoc d ↦{fullShare} f : sProp 𝕄)
      = bigSep Finset.univ fun c : Fin 2 => bigSep Finset.univ fun i : Fin 16 => aLoc d ↦[aSet (num c.val i.val)]{fullShare} f :=
  cut (ℓ := aLoc d) aSet (fun i => (i 0).val / 1600) (fun n i => mem_aSet.trans (by omega))
    (fun i => by have : (i 0).val < 51200 := (i 0).isLt; omega) f

/-- The counts' array, cut among the thirty-two tasks by rows. -/
theorem b_cut (d : Dev nD) (f : S32x32768.Idx → Elt F .f32) :
    (bLoc d ↦{fullShare} f : sProp 𝕄)
      = bigSep Finset.univ fun c : Fin 2 => bigSep Finset.univ fun i : Fin 16 => bLoc d ↦[bFrom (num c.val i.val) 0]{fullShare} f :=
  cut (ℓ := bLoc d) (bFrom · 0) (fun i => (i 0).val) (fun n i => mem_bFrom.trans (by omega))
    (fun i => (i 0).isLt) f

/-- The counts of every task, as the counts' array holds them once the tasks are done. -/
def counts (fa : S51200.Idx → BitVec 32) : S32x32768.Idx → Elt F .f32 := fun i => outOf (word (tileIdx fa (i 0).val)) i

/-- A task's row as it leaves it is that row of all the counts. -/
theorem done_eq (d : Dev nD) (fa : S51200.Idx → BitVec 32) (n : ℕ) :
    done (F := F) d fa n = iprop((aLoc d ↦[aSet n]{fullShare} fa) ∗ bLoc d ↦[bFrom n 0]{fullShare} (counts fa : S32x32768.Idx → Elt F .f32)) := by
  unfold done
  rw [pointsTo_congr (ℓ := bLoc d) (I := bFrom n 0) (q := fullShare) (f := (outOf (word (tileIdx fa n)) : S32x32768.Idx → Elt F .f32))
    (g := (counts fa : S32x32768.Idx → Elt F .f32)) fun x hx => by unfold counts; rw [(mem_bFrom.mp hx).1]]

/-- What the call takes is the two arrays. -/
theorem st_eq (d : Dev nD) : (bigSep Finset.univ fun c : Fin ((K (F := F)).nCore 0) => (P fa fb).st 0 d c)
    = iprop((aLoc d ↦{fullShare} fa d) ∗ bLoc d ↦{fullShare} fb d) := by
  rw [a_cut, b_cut, ← bigSep_sep']
  refine bigSep_congr fun c _ => ?_
  rw [← bigSep_sep']; rfl

/-- What it gives back is the indices as they were and the counts. -/
theorem dn_eq (d : Dev nD) : (bigSep Finset.univ fun c : Fin ((K (F := F)).nCore 0) => (P fa fb).dn 0 d c)
    = iprop((aLoc d ↦{fullShare} fa d) ∗ bLoc d ↦{fullShare} (counts (fa d) : S32x32768.Idx → Elt F .f32)) := by
  rw [a_cut, b_cut, ← bigSep_sep']
  refine bigSep_congr fun c _ => ?_
  rw [← bigSep_sep']
  exact bigSep_congr (s := (Finset.univ : Finset (Fin 16))) fun i _ => done_eq d (fa d) (num c.val i.val)

end Cert.Proof.KI
end
-- ==== Proof.Region.lean ====
/-
  The TensorCore's product: one grid point's body, the pipeline's proof data, and its region between two states of the
  arrays.
-/
module

public import proofs.«01_k».proof.Proof.Setup
public import proofs.«01_k».proof.Proof.Table
public import proofs.«01_k».proof.Proof.Gen.KernelIdeal.Skeleton
public import Idealize.ShloMosaic.Lib.Pipeline.RegionsLoop
public import Idealize.ShloMosaic.Lib.Pipeline.TableIdle
public import Idealize.ShloMosaic.Lib.VecWindow

@[expose] public section

noncomputable section

namespace Cert.Proof.KI
open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

abbrev held' (c : Dev nD) {sp : Space} {S : Shape} {e : EltTy} (M : Memref sig .tc sp S e) (X : S.Idx → Elt F e) : sProp 𝕄 :=
  M.view.loc (c : Thread nD τ) ↦[M.view.set]{fullShare} M.view.rep X

/-- One grid point's body: it reads its two input blocks and stores their product. -/
theorem mm_run (c : Dev nD) (i : grid1.Coords) (M1 : Memref sig .tc .vmem S64x8x8x128 .f32) (h1 : M1.IsWhole)
    (M2 : Memref sig .tc .vmem S1000x1024 .bf16) (h2 : M2.IsWhole) (M3 : Memref sig .tc .vmem S512x1024 .f32) (h3 : M3.IsWhole)
    (X1 : S64x8x8x128.Idx → Elt F .f32) (X2 : S1000x1024.Idx → Elt F .bf16) (X3 : S512x1024.Idx → Elt F .f32) (Q : PUnit → sProp 𝕄) :
    iprop(held' c M1 X1 ∗ held' c M2 X2 ∗ held' c M3 X3 ∗ (iprop(held' c M1 X1 ∗ held' c M2 X2 ∗ held' c M3 (k1_pay1 X1 X2)) -∗ Q ⟨⟩))
      ⊢ wp frame (wpE (defs₁ (F := F)) Variants.none c none) Set.univ (cc1__mm_body i M1 h1 M2 h2 M3 h3) Q := by
  rw [cc1__mm_body_eq_skeleton]
  iintro ⟨H1, H2, H3, Hk⟩
  sl_unfold [cc1__mm_body_skel]

  sl_exec!
  sl_step
  iapply Hk
  isplitl [H1]; · iexact H1
  isplitl [H2]; · iexact H2
  iapply (rep_of_owns (c : Thread nD τ) M3 fullShare (k1_pay1 X1 X2))
  unfold owns
  iexists _
  isplitr; swap; (· iexact H3)
  ipureintro
  unfold mm_run.sl.H3_1
  funext y
  refine (View.read_writes_cons_unit_of_mem M3.view _ (off := ![0, 0]) (off' := ![0, 0]) (size := S512x1024.size) _ _ [] y y rfl
    fun a => ?_).trans ?_
  · match a with | 0 => exact (Nat.zero_add _).symm | 1 => exact (Nat.zero_add _).symm
  exact congrFun (congrArg₂ k1_pay1 (View.readAt_rep_full M1.view X1 _) (View.readAt_rep_full M2.view X2 _)) y

/-! ## The pipeline's proof data -/

variable (V : (c : Dev nD) → (b : Ref sig .tc) → Buf (Elt F) ((c : Thread nD τ).loc b)) (n : ℕ)

/-- The block of an input window's array at a grid point, at the contents the region is entered with. -/
abbrev blkAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A grid point's block of the counts. -/
abbrev blk0 (c : Dev nD) (t : Fin cfg1.N) : S64x8x8x128.Idx → Elt F .f32 := blkAt V c 0 t
/-- A grid point's block of the codebook. -/
abbrev blk1 (c : Dev nD) (t : Fin cfg1.N) : S1000x1024.Idx → Elt F .bf16 := blkAt V c 1 t

/-- What a point leaves in each window's staging buffer: the inputs' blocks, and their product. -/
def leaves (c : Dev nD) : (w : Fin cfg1.W) → Fin cfg1.N → (cfg1.win w).block.Idx → Elt F (cfg1.win w).elt
  | ⟨0, _⟩, t => blk0 V c t
  | ⟨1, _⟩, t => blk1 V c t
  | ⟨2, _⟩, t => k1_pay1 (blk0 V c t) (blk1 V c t)

/-- The proof data of the region entered with the arrays at `V`, its thread's recorded waits all below level `n`. -/
def dat (c : Dev nD) : Dat τ (Elt F) (HIx 1) ℕ UU ℕ cfg1 c where
  A w := V c (Pipeline.arrRef spec1 w)
  after := leaves V c
  Φ _ := Pipeline.scopedRest (Ix := HIx 1) (Name := ℕ) (U := UU) (Lvl := ℕ) (Val := Elt F) spec1 c
  q _ := fullShare
  owed _ := 0
  recorded _ := {p | (K (F := F)).lev ((c : Thread nD τ), p.1) p.2 ≤ n}

/-- A grid point finds its block of the counts in the first window. -/
theorem before0 (c : Dev nD) (t : Fin cfg1.N) (d) : (dat V n c).before 0 t d = blk0 V c t :=
  (dat V n c).before_in_eq_fetched 0 rfl (fun _ => rfl) (fun _ _ _ => rfl) (fun _ => rfl) t d

/-- A grid point finds the codebook in the second window. -/
theorem before1 (c : Dev nD) (t : Fin cfg1.N) (d) : (dat V n c).before 1 t d = blk1 V c t :=
  (dat V n c).before_in_eq_fetched 1 rfl (fun _ => rfl) (fun _ _ _ => rfl) (fun _ => rfl) t d

/-- The table's entry for the product's body. -/
theorem defs₁_mm (t : Fin cfg1.N) : defs₁ (F := F) .tc cfg1.body (cfg1.bodyArgs t (cfg1.slots t)) = bodyAt1 t := rfl

/-- Every grid point's body does what the pipeline's data say. -/
theorem body_obligation (c : Dev nD) : BodyObligation (dat V n c) (defs₁ (F := F)) 𝒱₀ none Set.univ := fun t => by
  rw [bigSep_W1, bigSep_W1, defs₁_mm]
  rw [show (dat V n c).owesAt none t.succ = (dat V n c).owesAt none t.castSucc from rfl,
    show (dat V n c).Φ t.succ = (dat V n c).Φ t.castSucc from rfl]
  iintro ⟨HΦ, Howes, ⟨%d0, H0⟩, ⟨%d1, H1⟩, ⟨%d2, H2⟩⟩
  rw [before0, before1]
  iapply (mm_run c _ (st1_0 t) _ (st1_1 t) _ (st1_2 t) _ (blk0 V c t) (blk1 V c t) _ _)
  isplitl [H0]; · iapply (rep_of_owns (c : Thread nD τ) (st1_0 t) fullShare (blk0 V c t)); iexact H0
  isplitl [H1]; · iapply (rep_of_owns (c : Thread nD τ) (st1_1 t) fullShare (blk1 V c t)); iexact H1
  isplitl [H2]; · iapply (rep_of_owns (c : Thread nD τ) (st1_2 t) fullShare _); iexact H2
  iintro ⟨H0, H1, H2⟩
  isplitl [HΦ]; · iexact HΦ
  isplitl [Howes]; · iexact Howes
  isplitl [H0]; · iapply (owns_of_rep (c : Thread nD τ) (st1_0 t) fullShare (blk0 V c t)); iexact H0
  isplitl [H1]; · iapply (owns_of_rep (c : Thread nD τ) (st1_1 t) fullShare (blk1 V c t)); iexact H1
  iapply (owns_of_rep (c : Thread nD τ) (st1_2 t) fullShare (k1_pay1 (blk0 V c t) (blk1 V c t))); iexact H2

/-! ## The region -/

abbrev adm (p : Fin 1) : (pcfgs (F := F) p).Adm := (cfgs p).toPCfg_adm

def pdats : (p : Fin 1) → (c : Dev nD) → Dat τ (Elt F) (HIx 1) ℕ UU ℕ (Pipeline.pin (pcfgs (F := F)) adm p) c
  | ⟨0, _⟩ => dat V n

/-- The product's array as the region leaves it. -/
def product (c : Dev nD) : Buf (Elt F) ((c : Thread nD τ).loc main_v4) := (dat V n c).arrAt 2 cfg1.N

/-- The arrays after the region: the product's at the product, the others as they were. -/
def V' (c : Dev nD) (b : Ref sig .tc) : Buf (Elt F) ((c : Thread nD τ).loc b) :=
  Function.update (V c) main_v4 (product V n c) b

/-- The thread's state around the region: every array at `V`, nothing owed, the waits recorded all below level `n`. -/
abbrev around (V : (c : Dev nD) → (b : Ref sig .tc) → Buf (Elt F) ((c : Thread nD τ).loc b)) (c : Dev nD) : sProp 𝕄 :=
  iprop(unscopedBufs c (V c) ∗ ∃ W, ⌜(K (F := F)).WBelow (c : Thread nD τ) W n⌝ ∗ owes (c : Thread nD τ) (0 : CellTallies nD τ sig (HIx 1)) W)

set_option backward.isDefEq.respectTransparency.types false in
def reg : Pipeline.RegionSeg (pcfgs (F := F)) adm (pdats V n) (none : HIx 1) defs₁ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V n c).loose
  hwaits := Pipeline.hwaits_of_owed_zero _ _ _ _ (K (F := F)).L (K (F := F)).lev 0 fun _ _ => rfl
  pre := around n V
  post := around n (V' V n)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V n) launch1.win launch1.arr_whole c
      ((pdats V n 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V n 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none,
      show (pdats V n 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V n) ((pdats V n 0 c).share_full fun _ => rfl) (V c) (V' V n c) ((pdats V n 0 c).arrAt · cfg1.N)
      (fun w => by
        fin_cases w
        · exact ((pdats V n 0 c).arrAt_in 0 rfl _).trans (Function.update_of_ne (show main_v2 ≠ main_v4 by decide) _ _).symm
        · exact ((pdats V n 0 c).arrAt_in 1 rfl _).trans (Function.update_of_ne (show main_v3 ≠ main_v4 by decide) _ _).symm
        · exact (Function.update_self (main_v4 : Ref sig .tc) (product V n c) (V c)).symm)
      (fun b hb => Function.update_of_ne (show b ≠ (main_v4 : Ref sig .tc) from
        fun h => hb (h ▸ Finset.mem_image.mpr ⟨2, Finset.mem_univ _, rfl⟩)) _ _)
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr; swap; (· iexact HO)
    ipureintro
    intro p hp
    rcases hW hp with h | ⟨w, s, rfl⟩
    · exact h
    · exact Nat.zero_le _

end Cert.Proof.KI
end
-- ==== Proof.Main.lean ====
/-
  @main: the indices flattened, the SparseCore's counts, the counts reshaped, the codebook narrowed, and the TensorCore's product of
  the two. The run of the whole program, its arguments unchanged and its result the product of the last two arrays.
-/
module

public import proofs.«01_k».proof.Proof.Launch
public import proofs.«01_k».proof.Proof.Region
public import Idealize.ShloMosaic.Lib.SparseCore.Quiescent

@[expose] public section

noncomputable section

namespace Cert.Proof.KI
open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI Idealize.ShloMosaic.TcCoe
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays through @main -/

/-- The indices' array. -/
abbrev rx : DevRef τ sig := Proc.devRef .tc (main_arg0 : Ref sig .tc)
/-- The codebook's array. -/
abbrev rc : DevRef τ sig := Proc.devRef .tc (main_arg1 : Ref sig .tc)
/-- The flattened indices' array. -/
abbrev ra : DevRef τ sig := Proc.devRef .tc (main_v0 : Ref sig .tc)
/-- The counts' array. -/
abbrev rb : DevRef τ sig := Proc.devRef .tc (main_v1 : Ref sig .tc)
/-- The reshaped counts' array. -/
abbrev rd : DevRef τ sig := Proc.devRef .tc (main_v2 : Ref sig .tc)
/-- The narrowed codebook's array. -/
abbrev re : DevRef τ sig := Proc.devRef .tc (main_v3 : Ref sig .tc)
/-- The result's array. -/
abbrev ro : DevRef τ sig := Proc.devRef .tc (main_v4 : Ref sig .tc)

/-- Where the indices are. -/
abbrev xLoc (d : Dev nD) : Loc nD τ sig := (SparseCore.T d : Thread nD τ).loc main_arg0
/-- Where the codebook is. -/
abbrev cbLoc (d : Dev nD) : Loc nD τ sig := (SparseCore.T d : Thread nD τ).loc main_arg1
/-- Where the result is. -/
abbrev oLoc (d : Dev nD) : Loc nD τ sig := (SparseCore.T d : Thread nD τ).loc main_v4

/-- The flattening of the indices. -/
abbrev op1 : HloOp τ sig (Elt F) := StableHlo.reshape main_arg0 main_v0 (rfl : (.i32 : EltTy) = .i32) shapeCasts_S1024x50_S51200
/-- The reshape of the counts. -/
abbrev op2 : HloOp τ sig (Elt F) := StableHlo.reshape main_v1 main_v2 (rfl : (.f32 : EltTy) = .f32) shapeCasts_S32x32768_S128x8x8x128
/-- The narrowing of the codebook. -/
abbrev op3 : HloOp τ sig (Elt F) := StableHlo.unary main_arg1 main_v3
  ((truncf .bf16 · bitsLt_bf16_f32) : (⟨S1000x1024, .f32⟩ : BufTy).Contents (Elt F) → (⟨S1000x1024, .bf16⟩ : BufTy).Contents (Elt F))

/-- The TensorCore's arrays. -/
def arrays : Finset (DevRef τ sig) := (StableHlo.tcRefs τ sig).filter fun b => ¬ b.isScoped

omit [FloatOps F] in
/-- The launch's arrays at a valuation are that set held at it. -/
theorem unscoped_held (d : Dev nD) (W : Valuation τ sig (Elt F)) :
    (unscopedBufs d (fun b => W b) : sProp 𝕄) = held (T d) arrays W := by
  unfold unscopedBufs held arrays StableHlo.tcRefs
  rw [Finset.filter_map, bigSep_map]
  rfl

/-- A device's arrays at the start. -/
def V0 (d : Dev nD) : Valuation τ sig (Elt F) := fun b => m (d, b)
/-- The arrays after the flattening. -/
def V1 (d : Dev nD) : Valuation τ sig (Elt F) := (op1 (F := F)).result (V0 m d)

/-- The flattened indices. -/
def flat (d : Dev nD) : S51200.Idx → BitVec 32 := V1 m d ra

/-- The arrays after the SparseCore's call. -/
def V2 (d : Dev nD) : Valuation τ sig (Elt F) := Function.update (V1 m d) rb (counts (F := F) (flat m d) : S32x32768.Idx → Elt F .f32)
/-- The arrays after the counts' reshape. -/
def V3 (d : Dev nD) : Valuation τ sig (Elt F) := (op2 (F := F)).result (V2 m d)
/-- The arrays after the codebook's narrowing. -/
def V4 (d : Dev nD) : Valuation τ sig (Elt F) := (op3 (F := F)).result (V3 m d)

/-- The flattening leaves the counts' array as it was. -/
theorem V1_b (d : Dev nD) : V1 m d rb = m (bLoc d) := StableHlo.reshape_result_ne _ _ _ _ _ _ _ (by decide)
/-- The flattening leaves the codebook as it was. -/
theorem V1_c (d : Dev nD) : V1 m d rc = m (cbLoc d) := StableHlo.reshape_result_ne _ _ _ _ _ _ _ (by decide)
/-- The flattening leaves the indices as they were. -/
theorem V1_x (d : Dev nD) : V1 m d rx = m (xLoc d) := StableHlo.reshape_result_ne _ _ _ _ _ _ _ (by decide)
/-- The flattened indices are the indices in row-major order. -/
theorem flat_eq (d : Dev nD) : flat m d = shapeCast S51200 (m (xLoc d) : S1024x50.Idx → BitVec 32) shapeCasts_S1024x50_S51200 := by
  show (op1 (F := F)).result (V0 m d) ra = _
  exact StableHlo.reshape_result main_arg0 main_v0 (rfl : (.i32 : EltTy) = .i32) shapeCasts_S1024x50_S51200 _ _ (V0 m d)
/-- After the SparseCore's call the counts' array holds the counts of the flattened indices. -/
theorem V2_b (d : Dev nD) : V2 m d rb = (counts (F := F) (flat m d) : S32x32768.Idx → Elt F .f32) := Function.update_self _ _ _
/-- The SparseCore's call changes no other array. -/
theorem V2_ne (d : Dev nD) {b : DevRef τ sig} (h : b ≠ rb) : V2 m d b = V1 m d b := Function.update_of_ne h _ _
/-- At the product's start the indices are as they were. -/
theorem V4_x (d : Dev nD) : V4 m d rx = m (xLoc d) :=
  (StableHlo.unary_result_ne _ _ _ _ _ _ (by decide)).trans
    ((StableHlo.reshape_result_ne _ _ _ _ _ _ _ (by decide)).trans ((V2_ne m d (by decide)).trans (V1_x m d)))
/-- At the product's start the codebook is as it was. -/
theorem V4_c (d : Dev nD) : V4 m d rc = m (cbLoc d) :=
  (StableHlo.unary_result_ne _ _ _ _ _ _ (by decide)).trans
    ((StableHlo.reshape_result_ne _ _ _ _ _ _ _ (by decide)).trans ((V2_ne m d (by decide)).trans (V1_c m d)))
/-- The counts the TensorCore reads. -/
theorem V4_d (d : Dev nD) : V4 m d rd = shapeCast S128x8x8x128 (counts (F := F) (flat m d) : S32x32768.Idx → Elt F .f32) shapeCasts_S32x32768_S128x8x8x128 :=
  (StableHlo.unary_result_ne _ _ _ _ _ _ (by decide)).trans ((StableHlo.reshape_result _ _ _ _ _ _ _).trans (by rw [V2_b]; rfl))
/-- The codebook the TensorCore reads. -/
theorem V4_e (d : Dev nD) : V4 m d re = truncf .bf16 (m (cbLoc d) : S1000x1024.Idx → Elt F .f32) bitsLt_bf16_f32 :=
  (StableHlo.unary_result _ _ _ _ _ _).trans (congrArg (truncf .bf16 · bitsLt_bf16_f32)
    ((StableHlo.reshape_result_ne _ _ _ _ _ _ _ (by decide)).trans ((V2_ne m d (by decide)).trans (V1_c m d))))

/-- The flattened indices are below 1000 if the indices are. -/
theorem flat_small (h : ∀ d i, ((m (xLoc d) : S1024x50.Idx → BitVec 32) i).toNat < 1000) (d : Dev nD) (i) : (flat m d i).toNat < 1000 := by
  rw [flat_eq]; exact h d _

/-- The arrays at the region's entry, by reference. -/
abbrev VR (c : Dev nD) (b : Ref sig .tc) : Buf (Elt F) ((c : Thread nD τ).loc b) := V4 m c b

/-- The program's result. -/
abbrev result (c : Dev nD) : Buf (Elt F) (oLoc c) := product (VR m) 8 c

/-- The call's payloads, at the program's arrays. -/
abbrev PP : (K (F := F)).Pay (nD := nD) (Val := Elt F) (Name := ℕ) (U := UU) := P (flat m) (fun d => m (bLoc d))

omit [FloatOps F] in
/-- The two arrays of the call out of the arrays held. -/
theorem held_call (d : Dev nD) (W : Valuation τ sig (Elt F)) :
    (held (T d) arrays W : sProp 𝕄) = iprop((aLoc d ↦{fullShare} W ra) ∗ (bLoc d ↦{fullShare} W rb) ∗ held (T d) ((arrays.erase ra).erase rb) W) := by
  unfold held
  rw [show arrays = insert ra (insert rb ((arrays.erase ra).erase rb)) from
      ((Finset.insert_erase (show ra ∈ arrays by decide)) ▸ (congrArg (insert ra) (Finset.insert_erase (show rb ∈ arrays.erase ra by decide)))).symm,
    SparseCore.bigSep_insert' (by decide), SparseCore.bigSep_insert' (by decide)]
  rfl

/-- At the call: the indices flattened, the counts' array as it was, the rest. -/
theorem held_before (d : Dev nD) :
    (held (T d) arrays ((op1 (F := F)).result (V0 m d)) : sProp 𝕄)
      = iprop((aLoc d ↦{fullShare} flat m d) ∗ (bLoc d ↦{fullShare} m (bLoc d)) ∗ held (T d) ((arrays.erase ra).erase rb) (V2 m d)) := by
  rw [← show held (T d) ((arrays.erase ra).erase rb) (V1 m d) = (held (T d) ((arrays.erase ra).erase rb) (V2 m d) : sProp 𝕄) from
    StableHlo.held_congr _ fun b hb => (V2_ne m d (Finset.ne_of_mem_erase hb)).symm, ← V1_b m d]
  exact held_call d (V1 m d)

/-- After the call the arrays are held with the counts in place. -/
theorem held_after (d : Dev nD) :
    (held (T d) arrays (V2 m d) : sProp 𝕄)
      = iprop((aLoc d ↦{fullShare} flat m d) ∗ (bLoc d ↦{fullShare} (counts (F := F) (flat m d) : S32x32768.Idx → Elt F .f32))
          ∗ held (T d) ((arrays.erase ra).erase rb) (V2 m d)) := by
  rw [held_call, V2_b, V2_ne m d (show ra ≠ rb by decide)]; rfl

/-- At the region's entry the arrays are the thread's own. -/
theorem held_last (d : Dev nD) : (held (T d) arrays ((op3 (F := F)).result (V3 m d)) : sProp 𝕄) = unscopedBufs d (VR m d) :=
  (unscoped_held d (V4 m d)).symm

/-! ## The launch's ghost state: the handshakes' rounds, and the pipeline's for the TensorCore -/

abbrev pinned := Pipeline.pin (pcfgs (F := F)) adm

/-- The launch's element: the handshakes' rounds, the region's rounds, no counter. -/
def u₀ : UU := (initOf (K (F := F)).hsCells (K (F := F)).hsToks,
  (initOf (Pipeline.cells (pinned (F := F)) cellOf_inj) (Pipeline.launchToks (pinned (F := F)) cellOf_inj), 1))

/-- What the launch deals the TensorCore of a device: the region's cells and tokens. -/
def G (d : Dev nD) : sProp 𝕄 := iprop(Pipeline.cellsGhost (pinned (F := F)) EP 0 d ∗ Pipeline.toksInit (pinned (F := F)) EP 0 d)

/-- A product over one index is its only factor. -/
theorem bigSep_one (Φ : Fin 1 → sProp 𝕄) : bigSep Finset.univ Φ = Φ 0 := bigSep_univ_of_subsingleton (0 : Fin 1)

omit [FloatOps F] in
/-- A product of empty resources is empty. -/
theorem bigSep_emp' {I : Type} (s : Finset I) : (bigSep s fun _ => iprop(emp)) = (iprop(emp) : sProp 𝕄) := bigSep_emp_const s

/-- The launch's element pays for the handshakes and for the TensorCore's region. -/
theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (PP m).x q thr) := by
  unfold u₀
  iintro Hu
  ihave H := (ownU_pair _ _) $$ Hu
  icases H with ⟨HH, HR⟩
  ihave H' := (own_pair_emb _ _ _) $$ HR
  icases H' with ⟨HP, -⟩
  imod (Pipeline.fund_ghost (pinned (F := F)) EP cellOf_inj) $$ HP with ⟨Hc, Ht⟩
  imodintro
  isplitl [HH]; · iexact HH
  isplitl [Hc Ht]
  · unfold G
    rw [bigSep_sep']
    isplitl [Hc]
    · iapply (Entails.of_eq (bigSep_congr (s := Finset.univ) fun c _ => bigSep_one fun p => Pipeline.cellsGhost (pinned (F := F)) EP p c)); iexact Hc
    · iapply (Entails.of_eq (bigSep_congr (s := Finset.univ) fun c _ => bigSep_one fun p => Pipeline.toksInit (pinned (F := F)) EP p c)); iexact Ht
  unfold PP P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main -/

/-- What @main leaves: its arguments as they were, the result at the product. -/
def FIN (d : Dev nD) : sProp 𝕄 :=
  iprop((xLoc d ↦{fullShare} m (xLoc d)) ∗ (cbLoc d ↦{fullShare} m (cbLoc d)) ∗ oLoc d ↦{fullShare} result m d)

/-- The arrays after the product are what @main leaves. -/
theorem fin_of_arrays (d : Dev nD) : (unscopedBufs d (V' (VR m) 8 d) : sProp 𝕄) ⊢ FIN m d := by
  have hx : V' (VR m) 8 d main_arg0 = m (xLoc d) := (Function.update_of_ne (show (main_arg0 : Ref sig .tc) ≠ main_v4 by decide) _ _).trans (V4_x m d)
  have hc : V' (VR m) 8 d main_arg1 = m (cbLoc d) := (Function.update_of_ne (show (main_arg1 : Ref sig .tc) ≠ main_v4 by decide) _ _).trans (V4_c m d)
  have ho : V' (VR m) 8 d main_v4 = result m d := Function.update_self _ _ _
  unfold unscopedBufs FIN
  rw [show (Finset.univ.filter fun b : Ref sig .tc => ¬ b.isScoped) = insert main_arg0 (insert main_arg1 (insert main_v4 {main_v0, main_v1, main_v2, main_v3})) by decide,
    SparseCore.bigSep_insert' (by decide), SparseCore.bigSep_insert' (by decide), SparseCore.bigSep_insert' (by decide), hx, hc, ho]
  iintro ⟨Hx, Hc, Ho, -⟩
  isplitl [Hx]; · iexact Hx
  isplitl [Hc]; · iexact Hc
  iexact Ho

/-- The flattening works on @main's arrays. -/
theorem hop1 : (op1 (F := F)).bufs ⊆ arrays := show ({rx, ra} : Finset (DevRef τ sig)) ⊆ arrays by decide
/-- The counts' reshape works on @main's arrays. -/
theorem hop2 : (op2 (F := F)).bufs ⊆ arrays := show ({rb, rd} : Finset (DevRef τ sig)) ⊆ arrays by decide
/-- The codebook's narrowing works on @main's arrays. -/
theorem hop3 : (op3 (F := F)).bufs ⊆ arrays := show ({rc, re} : Finset (DevRef τ sig)) ⊆ arrays by decide

/-- After its one call the TensorCore owes nothing. -/
theorem otc_one (d : Dev nD) : (K (F := F)).Otc d 1 = (0 : CellTallies nD τ sig (HIx 1)) := by
  unfold SparseCore.Cfg.Otc; simp

/-- The TensorCore's state after the call: nothing owed, and the rest. -/
theorem tcSt_one (d : Dev nD) :
    ((K (F := F)).tcSt EH d ((0 : Fin 1).val + 1) : sProp 𝕄) ⊢ iprop((∃ W, ⌜(K (F := F)).WBelow (SparseCore.T d) W 8⌝ ∗ owes (SparseCore.T d) (0 : CellTallies nD τ sig (HIx 1)) W)
      ∗ ((∃ W, ⌜(K (F := F)).WBelow (SparseCore.T d) W 8⌝ ∗ owes (SparseCore.T d) (0 : CellTallies nD τ sig (HIx 1)) W) -∗ (K (F := F)).tcSt EH d 1)) := by
  show ((K (F := F)).tcSt EH d 1 : sProp 𝕄) ⊢ _
  unfold SparseCore.Cfg.tcSt
  rw [otc_one]
  iintro ⟨HO, Hst⟩
  isplitl [HO]; · iexact HO
  iintro HO
  isplitl [HO]; · iexact HO
  iexact Hst

omit [FloatOps F] in
/-- A resource that costs nothing is put in front. -/
theorem arrange {W A B C D E : sProp 𝕄} (h : iprop(emp) ⊢ W) : iprop(A ∗ B ∗ C ∗ D ∗ E) ⊢ iprop(W ∗ A ∗ B ∗ C ∗ D ∗ E) := by
  iintro H
  isplitr; · iapply h; iempintro
  iexact H

/-- A program that returns at once leaves what it was given. -/
theorem to_ret (d : Dev nD) (A : sProp 𝕄) :
    iprop(emp) ⊢ iprop(A -∗ wp frame (wpE (D (F := F)) 𝒱 (SparseCore.T d) none) Set.univ (.ret PUnit.unit) fun _ => A) := by
  iintro - H
  rw [wp_ret]; imodintro; iexact H

/-- The region: the product into the result's array, the other arrays unchanged. -/
theorem region_wp [∀ e, Nonempty (Elt F e)] (d : Dev nD) :
    iprop(boundary (SparseCore.T d) ∗ around 8 (VR m) d ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ()))
          fun _ => iprop(boundary (SparseCore.T d) ∗ around 8 (V' (VR m) 8) d) := by
  refine BI.Entails.trans ?_ ((K (F := F)).wp_liftProg (D (F := F)) 𝒱 (SparseCore.T d) Set.univ none
    (.op (.customCall (Pipeline.entry (0 : Fin 1)) ()) .ret) _)
  refine BI.Entails.trans ?_ (Pipeline.RegionSeg.wp pcfgs adm (pdats (VR m) 8) none cellOf_inj EP defs₁ 𝒱₀ (K (F := F)).L (K (F := F)).lev
    (reg (VR m) 8) d none (by simp) .ret _)
  exact arrange (to_ret _ _)

/-- @main's run on one device: from the launch's share to its arrays as `FIN` states them, every handshake done. -/
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) arrays (V0 m d) from unscoped_held d (V0 m d)]
  simp only [main, wp_bind, wp_pure]
  iintro ⟨#Hctx, Hst, ⟨Hb, Hheld, Hts, -⟩, HG⟩
  -- the indices flattened
  iapply (wp_hlo_within 𝒱 (SparseCore.T d) none Set.univ (op := op1) (S := arrays) hop1 (V := V0 m d)) $$ [Hb Hheld]
  · isplitl [Hb] <;> iassumption
  iintro ⟨Hb, Hheld⟩
  rw [wp_ret]; imodintro
  -- the counts
  ihave Hh := (Entails.of_eq (held_before m d)) $$ Hheld
  icases Hh with ⟨Ha, Hbb, Hrest⟩
  iapply ((K (F := F)).wp_run (D (F := F)) 𝒱 (EH := EH) (P := PP m) κ d 0) $$ [Hst Ha Hbb Hb Hrest Hts HG]
  isplitr; · iexact Hctx
  isplitl [Hst]; · iexact Hst
  isplitl [Ha Hbb]
  · rw [st_eq]
    isplitl [Ha] <;> iassumption
  iintro ⟨Hst, Hdn⟩
  ihave Hdn' := (Entails.of_eq (dn_eq (flat m) (fun d => m (bLoc d)) d)) $$ Hdn
  icases Hdn' with ⟨Ha, Hbb⟩
  -- the counts reshaped
  iapply (wp_hlo_within 𝒱 (SparseCore.T d) none Set.univ (op := op2) (S := arrays) hop2 (V := V2 m d)) $$ [Hb Ha Hbb Hrest]
  · isplitl [Hb]; · iexact Hb
    rw [held_after]
    isplitl [Ha]; · iexact Ha
    isplitl [Hbb] <;> iassumption
  iintro ⟨Hb, Hheld⟩
  rw [wp_ret]; imodintro
  -- the codebook narrowed
  iapply (wp_hlo_within 𝒱 (SparseCore.T d) none Set.univ (op := op3) (S := arrays) hop3 (V := V3 m d)) $$ [Hb Hheld]
  · isplitl [Hb]; · iexact Hb
    iexact Hheld
  iintro ⟨Hb, Hheld⟩
  rw [wp_ret]; imodintro
  -- the product
  ihave Hst' := (tcSt_one (F := F) d) $$ Hst
  icases Hst' with ⟨HO, Hst⟩
  ihave Hub := (Entails.of_eq (held_last m d)) $$ Hheld
  ihave Hl := (SparseCore.Cfg.ctx_levAts κ) $$ Hctx
  iapply (wp_wand_r frame _ Set.univ)
  isplitl [Hb Hub HO Hl HG]
  · iapply (region_wp m d)
    isplitl [Hb]; · iexact Hb
    isplitl [Hub HO]
    · isplitl [Hub]; · iexact Hub
      iexact HO
    isplitl [Hl]; · iexact Hl
    iexact HG
  iintro %_ ⟨Hb, Hub, HO⟩
  imodintro
  isplitl [Hst HO]; · iapply Hst; iexact HO
  isplitl [Hub]; · iapply (fin_of_arrays m d); iexact Hub
  isplitl [Hb] <;> iassumption

/-! ## The run -/

/-- The final memory's arrays, as `FIN` states them. -/
def fq (d : Dev nD) (s' : Phys nD τ sig (Elt F)) : Prop :=
  s'.mem.mem (xLoc d) = m (xLoc d) ∧ s'.mem.mem (cbLoc d) = m (cbLoc d) ∧ s'.mem.mem (oLoc d) = result m d

/-- What @main leaves, read off the final memory. -/
theorem hfin (d : Dev nD) (s' : Phys nD τ sig (Elt F)) : iprop(FIN m d ∗ SI s') ⊢ (⌜fq m d s'⌝ : sProp 𝕄) := by
  have key (ℓ : Loc nD τ sig) (f : Buf (Elt F) ℓ) : iprop(SI s' ∗ ℓ ↦{fullShare} f) ⊢ (⌜s'.mem.mem ℓ = f⌝ : sProp 𝕄) := by
    iintro H
    ihave H := (SI_pointsTo_agree (st := s') (ℓ := ℓ) (I := Finset.univ) (q := fullShare) (f := f)) $$ H
    icases H with %hx
    ipureintro; exact funext fun i => hx i (Finset.mem_univ i)
  unfold FIN fq
  iintro ⟨⟨Hx, Hc, Ho⟩, HSI⟩
  ihave H := (persistent_entails_right (key (xLoc d) _)) $$ [HSI Hx]
  · isplitl [HSI] <;> iassumption
  icases H with ⟨%h1, HSI, -⟩
  ihave H := (persistent_entails_right (key (cbLoc d) _)) $$ [HSI Hc]
  · isplitl [HSI] <;> iassumption
  icases H with ⟨%h2, HSI, -⟩
  ihave H := (key (oLoc d) _) $$ [HSI Ho]
  · isplitl [HSI] <;> iassumption
  icases H with %h3
  ipureintro; exact ⟨h1, h2, h3⟩

/-- What the run leaves: the arguments unchanged, the result the product, every semaphore at zero. -/
def QC : PUnit × MemSt nD τ sig (Elt F) → Prop := fun r => (∀ d : Dev nD, r.2.mem (xLoc d) = m (xLoc d) ∧ r.2.mem (cbLoc d) = m (cbLoc d) ∧ r.2.mem (oLoc d) = result m d)
  ∧ r.2.sem = fun _ => 0

/-- The run of the whole program, over any float values: if every index is below 1000, it ends without fault and leaves `QC`. -/
theorem run_main [∀ e, Nonempty (Elt F e)] (h : ∀ d i, ((m (xLoc d) : S1024x50.Idx → BitVec 32) i).toNat < 1000) :
    θ_run (defs (F := F)) (threads (F := F)) ⟨m, fun _ => 0, ρ⟩ (QC m) :=
  run_of_split _ (SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl _ _ (flat_small m h))
    (fun q _ => match q with | 0 => .of_plain (vecSplit _ _))
    m ρ main G (FIN m) (u₀ (F := F)) (sep_elim_left.trans (hu₀ m)) (hmain m ρ) (fq m) (hfin m) (QC m) (fun _ h hz => ⟨h, hz⟩))

end Cert.Proof.KI
end
-- ==== Proof.Frames.lean ====
/-
  What the precondition gives — every index below 1000 — and the frames: the kernel's run read at its arguments and counters, as
  floating-point words and as extended reals, and the reference's.
-/
module

public import proofs.«01_k».proof.Defs
public import proofs.«01_k».proof.Proof.Main
public import proofs.«01_k».proof.Proof.Gen.Kernel
public import proofs.«01_k».proof.Proof.Gen.Pre_in_range
public import proofs.«01_k».proof.Proof.Gen.ReferenceIdeal.Run
public import Idealize.ShloMosaic.Lib.Quiescent
public import Idealize.ShloMosaic.Lib.ReduceAll

@[expose] public section

noncomputable section

namespace Cert.Proof

open Idealize.ShloMosaic Idealize.SL.Sem

/-! ## The precondition -/

/-- A word that is at least 0 and below 1000 as a signed word is below 1000 as a natural number. -/
theorem below (v : BitVec 32) (h : IntOp.andi (IntOp.cmpi .sge v 0#32) (IntOp.cmpi .slt v 1000#32) = 1#1) : v.toNat < 1000 := by
  have both (p q : Bool) : IntOp.andi (BitVec.ofBool p) (BitVec.ofBool q) = BitVec.ofBool (p && q) := by
    cases p <;> cases q <;> decide
  have isOne (p : Bool) : (BitVec.ofBool p = 1#1) ↔ p = true := by cases p <;> decide
  simp only [IntOp.cmpi, both, isOne, Bool.and_eq_true, BitVec.sle_eq_decide, BitVec.slt_eq_decide,
    decide_eq_true_eq, BitVec.toInt_eq_toNat_cond, BitVec.toNat_ofNat, Nat.reducePow, Nat.reduceMod] at h
  omega

/-- `in_range` all ones: every index is below 1000. -/
theorem indices_below {F : FTy → Type} [FloatOps F] (x : Cert.Pre_in_range.S1024x50.Idx → BitVec 32) (cb : FVec F Cert.Pre_in_range.S1000x1024 .f32)
    (h : Cert.Pre_in_range.fn (F := F) x cb = fun _ => 1#1) (i : Cert.Pre_in_range.S1024x50.Idx) : (x i).toNat < 1000 := by
  haveI : Subsingleton Cert.Pre_in_range.S_.Idx := ⟨fun a b => funext fun k => k.elim0⟩
  exact below _ (Host.reduce_andi_all _ _ _ _ _ (congrFun h (fun k => k.elim0)) i)

/-! ## The frames -/

/-- The two printed programs' kernels are the same, processor by processor and label by label. -/
theorem kernels_eq : Cert.Kernel.defs₀ (F := Bits) = Cert.KernelIdeal.defs₀ (F := Bits) := by
  funext p l a
  match p, l with
  | .tc, ⟨0, _⟩ => rfl
  | .tc, ⟨1, _⟩ => rfl
  | .scScalar _, ⟨0, _⟩ => rfl
  | .scScalar _, ⟨1, _⟩ => rfl
  | .scVector _ _, ⟨0, _⟩ => rfl
  | .scVector _ _, ⟨1, _⟩ => rfl

/-- So are their body tables. -/
theorem defs_eq : Cert.Kernel.defs (F := Bits) = Cert.KernelIdeal.defs (F := Bits) :=
  congrArg (fun D => Cert.KernelIdeal.sc.defs (Pipeline.defs Cert.KernelIdeal.pcfgs D)) kernels_eq

/-- `Cert.quiescent_Kernel`: the run of the whole program over floating-point words. -/
theorem frame_kernel : Cert.quiescent_Kernel := fun m ρ hp => by
  rw [defs_eq]
  exact (θ_run Cert.KernelIdeal.defs _ _).mono (fun _ h => ⟨fun c => ⟨(h.1 c).1, (h.1 c).2.1⟩, h.2⟩)
    (KI.run_main (F := Bits) m ρ fun d i => indices_below _ _ (hp d) i)

/-- `Cert.quiescent_KernelIdeal`: the same run over extended reals. -/
theorem frame_kernelIdeal : Cert.quiescent_KernelIdeal := fun m ρ hp =>
  (θ_run Cert.KernelIdeal.defs _ _).mono (fun _ h => ⟨fun c => ⟨(h.1 c).1, (h.1 c).2.1⟩, h.2⟩)
    (KI.run_main (F := Ideal) m ρ fun d i => indices_below _ _ (hp d) i)

/-- `Cert.quiescent_ReferenceIdeal`: the reference's run; it has no semaphore. -/
theorem frame_referenceIdeal : Cert.quiescent_ReferenceIdeal := fun m ρ _ =>
  (θ_run Cert.ReferenceIdeal.defs _ _).mono
    (fun _ h => ⟨fun c => (h c).2, sem_eq_zero_of_no_sems rfl _⟩) (Cert.ReferenceIdeal.Value.run (F := Ideal) m ρ)

/-- `Cert.quiescent_ReferenceIdeal_pre_in_range`: the same, which needs nothing of the indices. -/
theorem frame_referenceIdeal_in_range : Cert.quiescent_ReferenceIdeal_pre_in_range := fun m ρ _ => frame_referenceIdeal m ρ trivial

end Cert.Proof

end
-- ==== Proof.Bag.lean ====
/-
  The function both programs compute — row `b` of the result is the sum of the fifty codebook rows that row `b` of the indices
  names — and its two readings: word by word, or column of the codebook by column, each times how often it is named.
-/
module

public import Idealize.ShloMosaic.Lib.Pointwise.Reduce
public import Idealize.ShloMosaic.PureOps.Ideal.Laws

@[expose] public section

noncomputable section

namespace Cert.Proof

open Idealize.ShloMosaic

/-- The word `t` of row `b`, cut off at the codebook's last row. -/
def named (X : (⟨2, ![1024, 50]⟩ : Shape).Idx → BitVec 32) (b : Fin 1024) (t : Fin 50) : Fin 1000 :=
  ⟨min (X (ix2 b t)).toNat 999, by omega⟩

/-- Row `b`, column `h` of the sums of the codebook's rows. -/
def bag (X : (⟨2, ![1024, 50]⟩ : Shape).Idx → BitVec 32) (C : (⟨2, ![1000, 1024]⟩ : Shape).Idx → EReal) (b h : Fin 1024) : EReal :=
  ∑ t : Fin 50, C (ix2 (named X b t) h)

/-- A number of ones and zeros times `x` is the sum of as many `x`. -/
theorem sum_ones_mul {ι : Type} (s : Finset ι) (p : ι → Prop) [DecidablePred p] (x : EReal) :
    (∑ t ∈ s, if p t then (1 : EReal) else 0) * x = ∑ t ∈ s, if p t then x else 0 := by
  classical
  induction s using Finset.induction_on with
  | empty => simp
  | insert a s ha ih =>
    rw [Finset.sum_insert ha, Finset.sum_insert ha, EReal.right_distrib_of_nonneg (by split <;> simp)
      (Finset.sum_nonneg fun t _ => by split <;> simp), ih]
    split <;> simp

/-- The sum over the codebook's rows, each times how often row `b` names it, is the sum over the words of row `b`. -/
theorem bag_eq (X : (⟨2, ![1024, 50]⟩ : Shape).Idx → BitVec 32) (C : (⟨2, ![1000, 1024]⟩ : Shape).Idx → EReal) (b h : Fin 1024) :
    ∑ v : Fin 1000, (∑ t : Fin 50, if named X b t = v then (1 : EReal) else 0) * C (ix2 v h) = bag X C b h := by
  rw [Finset.sum_congr rfl fun v _ => sum_ones_mul Finset.univ (fun t => named X b t = v) (C (ix2 v h)), Finset.sum_comm]
  exact Finset.sum_congr rfl fun t _ => (Finset.sum_ite_eq Finset.univ (named X b t) _).trans (if_pos (Finset.mem_univ _))

end Cert.Proof

end
-- ==== Proof.Histogram.lean ====
/-
  A task's counters over the extended reals: counter `1024 r + v` is the number of the fifty words of row `r` that are `v`.
-/
module

public import proofs.«01_k».proof.Proof.Counts
public import Idealize.ShloMosaic.PureOps.Ideal.Laws
public import Idealize.ShloMosaic.Lib.IdealHost

@[expose] public section

noncomputable section

namespace Cert.Proof.KI
open Idealize.ShloMosaic Idealize.SL.Sem
open Cert.KernelIdeal Cert.KernelIdeal.Gen

/-- The word the kernel starts from is 0. -/
theorem zero_ideal : (zero (F := Ideal) : EReal) = 0 := Ideal.ofBits_zero_f32

/-- The word the kernel adds is 1. -/
theorem one_ideal : (one (F := Ideal) : EReal) = 1 := by
  show Ideal.ofBits .f32 0x3F800000#32 = 1
  exact Ideal.ofBits_one_f32

/-- The counters after `n` words: as many ones as words name the counter. -/
theorem acc_ideal (w : ℕ → ℕ) (n : ℕ) (j : S32768.Idx) :
    (acc (F := Ideal) w n j : EReal) = ∑ k ∈ Finset.range n, if (j 0).val = 1024 * (k / 50) + w k then (1 : EReal) else 0 := by
  induction n with
  | zero => rw [Finset.sum_range_zero]; exact zero_ideal
  | succ n ih =>
    rw [Finset.sum_range_succ, acc_succ, bump]
    split
    · show (acc (F := Ideal) w n j : EReal) + one (F := Ideal) = _
      rw [ih, one_ideal]
    · rw [ih, add_zero]

/-- After all words, the counter of row `r` and column `v` is the number of row `r`'s words that are `v`. -/
theorem acc_row (w : ℕ → ℕ) (hw : ∀ k, w k < 1024) (r v : ℕ) (hr : r < 32) (hv : v < 1024) (j : S32768.Idx) (hj : (j 0).val = 1024 * r + v) :
    (acc (F := Ideal) w 1600 j : EReal) = ∑ t : Fin 50, if w (50 * r + t.val) = v then (1 : EReal) else 0 := by
  rw [acc_stable w (r := r + 1) (by omega) j (by omega), acc_ideal, show 50 * (r + 1) = 50 * r + 50 by omega, Finset.sum_range_add,
    Finset.sum_eq_zero fun k hk => if_neg (by have := Finset.mem_range.mp hk; have := hw k; omega), zero_add, Finset.sum_range]
  refine Finset.sum_congr rfl fun t _ => if_congr ?_ rfl rfl
  have := hw (50 * r + t.val); have := t.isLt
  omega

end Cert.Proof.KI
end
-- ==== Proof.KernelValue.lean ====
/-
  The kernel's value over the extended reals: the counts' array holds, per row of the indices, how often each codebook row is named;
  a grid point multiplies its 512 rows of counts with the codebook; the two blocks are the result, which is `bag`.
-/
module

public import proofs.«01_k».proof.Proof.Bag
public import proofs.«01_k».proof.Proof.Histogram
public import proofs.«01_k».proof.Proof.Main
public import Idealize.ShloMosaic.Lib.Pointwise.Contract
public import Idealize.ShloMosaic.Lib.Pipeline.ValueKit.Geometry

@[expose] public section

noncomputable section

namespace Cert.Proof.KI
open Cert.KernelIdeal Cert.KernelIdeal.Gen
open Idealize.ShloMosaic Idealize.ShloMosaic.TcCoe

/-! ## The counts -/

section Counts
variable (X : S1024x50.Idx → BitVec 32) (h : ∀ i, (X i).toNat < 1000)

/-- Word `50 r + t` of task `n`'s words is word `t` of row `32 n + r`. -/
theorem word_apply (n r : ℕ) (hn : n < 32) (hr : r < 32) (t : Fin 50) :
    word (tileIdx (shapeCast S51200 X shapeCasts_S1024x50_S51200) n) (50 * r + t.val) = (X (ix2 ⟨32 * n + r, by omega⟩ t)).toNat := by
  have ht := t.isLt
  unfold word tileIdx
  refine congrArg BitVec.toNat (shapeCast_apply X shapeCasts_S1024x50_S51200 _ _ ?_)
  rw [Shape.rowMajor_val_two, Shape.rowMajor_val_one]
  show (32 * n + r) * 50 + t.val = (1600 * n + (50 * r + t.val) % 1600) % 51200
  omega

include h in
/-- The counts' array at task `n`, row `r`, column `v`. -/
theorem counts_apply (n r v : ℕ) (hn : n < 32) (hr : r < 32) (hv : v < 1000) (i : S32x32768.Idx) (h0 : (i 0).val = n) (h1 : (i 1).val = 1024 * r + v) :
    (counts (F := Ideal) (shapeCast S51200 X shapeCasts_S1024x50_S51200) i : EReal)
      = ∑ t : Fin 50, if named X ⟨32 * n + r, by omega⟩ t = ⟨v, hv⟩ then (1 : EReal) else 0 := by
  unfold counts outOf
  rw [h0]
  refine (acc_row (word (tileIdx (shapeCast S51200 X shapeCasts_S1024x50_S51200) n)) (word_lt (tileIdx_small (fun _ => h _) n)) r v hr (by omega) _ h1).trans (Finset.sum_congr rfl fun t _ => if_congr ?_ rfl rfl)
  rw [word_apply X n r hn hr t, Fin.ext_iff]
  have := h (ix2 ⟨32 * n + r, by omega⟩ t)
  show _ ↔ min _ 999 = v
  omega

end Counts

/-! ## One grid point -/

/-- The left factor of a point's product: the block spelt as rows of 1024, its first 1000 columns. -/
theorem left_apply (A : S64x8x8x128.Idx → EReal) (p : Fin 512) (v : Fin 1000) :
    extractStridedSlice S512x1000 ![0, 0] (shapeCast S512x1024 (shapeCast S64x8x8x128 A shapeCasts_S64x8x8x128_S64x8x8x128)
        shapeCasts_S64x8x8x128_S512x1024) slices_S512x1024_o0_0_S512x1000 (ix2 p v)
      = A (ix4 ⟨p.val / 8, by omega⟩ ⟨p.val % 8, by omega⟩ ⟨v.val / 128, by omega⟩ ⟨v.val % 128, by omega⟩) := by
  have hv := v.isLt
  rw [shapeCast_self]
  refine (extractStridedSlice_apply _ _ _ _ (ix2 p (⟨v.val, by omega⟩ : Fin 1024)) fun a => ?_).trans ?_
  · match a with
    | ⟨0, _⟩ => exact (Nat.zero_add _).symm
    | ⟨1, _⟩ => exact (Nat.zero_add _).symm
  refine shapeCast_apply A shapeCasts_S64x8x8x128_S512x1024 _ _ ?_
  rw [Shape.rowMajor_val_two, Shape.rowMajor_val_four]
  show ((p.val / 8 * 8 + p.val % 8) * 8 + v.val / 128) * 128 + v.val % 128 = p.val * 1024 + v.val
  omega

/-- The matrix product from a zero accumulator, entry by entry. -/
theorem product_apply (A : FVec Ideal S512x1000 .bf16) (B : FVec Ideal S1000x1024 .bf16) (p : Fin 512) (k : Fin 1024) :
    matmul dot_S512x1000_S1000x1024_S512x1024_1_0_0_1_n_n none A B (constant (F := Ideal) S512x1024 .f32 0#32) (ix2 p k)
      = ∑ v : Fin 1000, (A (ix2 p v) * B (ix2 v k) : EReal) := by
  refine (Ideal.matmul_constant_zero_apply _ none _ _ _).trans ?_
  refine (DotDims.sum_contr₁ _ (a := 1) rfl (K := 1000) rfl _).trans ?_
  refine Finset.sum_congr rfl fun v _ => congrArg₂ (· * ·) (congrArg A ?_) (congrArg B ?_)
  · exact funext fun a => match a with | ⟨0, _⟩ => rfl | ⟨1, _⟩ => rfl
  · exact funext fun a => match a with | ⟨0, _⟩ => rfl | ⟨1, _⟩ => rfl

/-- Narrowing an extended real changes nothing. -/
theorem truncf_ideal {s : Shape} (x : FVec Ideal s .f32) (i : s.Idx) : truncf (F := Ideal) .bf16 x bitsLt_bf16_f32 i = x i := rfl

/-- A point's product at row `p`, column `k`: the sum over the first 1000 columns of its counts' rows. -/
theorem k1_pay1_apply (A : S64x8x8x128.Idx → EReal) (B : S1000x1024.Idx → EReal) (p : Fin 512) (k : Fin 1024) :
    k1_pay1 (F := Ideal) A B (ix2 p k)
      = ∑ v : Fin 1000, A (ix4 ⟨p.val / 8, by omega⟩ ⟨p.val % 8, by omega⟩ ⟨v.val / 128, by omega⟩ ⟨v.val % 128, by omega⟩) * B (ix2 v k) := by
  unfold k1_pay1
  refine (product_apply _ _ p k).trans ?_
  refine Finset.sum_congr rfl fun v _ => congrArg₂ (· * ·) ((truncf_ideal _ _).trans (left_apply A p v)) ?_
  rw [shapeCast_self]

/-! ## The two points' blocks -/

variable (m : (ℓ : Loc nD τ sig) → Buf (Elt Ideal) ℓ)

/-- Window 0 is at block `t` of the counts' array. -/
theorem index0 (t : Fin cfg1.N) (a : Fin 4) : (cfg1.win 0).index t a = if a = 0 then t.val else 0 := by
  revert t a; decide +kernel

/-- Window 1 is at the whole codebook. -/
theorem index1 (t : Fin cfg1.N) (a : Fin 2) : (cfg1.win 1).index t a = 0 := by
  revert t a; decide +kernel

/-- Window 2 is at block `t` of the result. -/
theorem index2 (t : Fin cfg1.N) (a : Fin 2) : (cfg1.win 2).index t a = if a = 0 then t.val else 0 := by
  revert t a; decide +kernel

/-- The counts' block at point `t`. -/
theorem blk0_apply (c : Dev nD) (t : Fin cfg1.N) (y : S64x8x8x128.Idx) :
    blk0 (VR m) c t y = (V4 m c rd : S128x8x8x128.Idx → EReal)
      (ix4 ⟨t.val * 64 + (y 0).val, by have := t.isLt; have : cfg1.N = 2 := rfl; have h : (y 0).val < 64 := (y 0).isLt; omega⟩ (y 1) (y 2) (y 3)) := by
  refine congrArg (V4 m c rd : S128x8x8x128.Idx → EReal) (funext fun a => Fin.ext ?_)
  refine (Pipeline.Window.rect_emb_val (cfg1.win 0) t y a).trans ?_
  rw [index0]
  match a with
  | ⟨0, _⟩ => rfl
  | ⟨1, _⟩ => exact (congrArg (· + (y 1).val) (Nat.zero_mul _)).trans (Nat.zero_add _)
  | ⟨2, _⟩ => exact (congrArg (· + (y 2).val) (Nat.zero_mul _)).trans (Nat.zero_add _)
  | ⟨3, _⟩ => exact (congrArg (· + (y 3).val) (Nat.zero_mul _)).trans (Nat.zero_add _)

/-- The codebook's block is the codebook. -/
theorem blk1_apply (c : Dev nD) (t : Fin cfg1.N) (y : S1000x1024.Idx) : blk1 (VR m) c t y = (m (cbLoc c) : S1000x1024.Idx → EReal) y := by
  refine Eq.trans ?_ (congrFun (V4_e m c) y)
  refine congrArg (V4 m c re : S1000x1024.Idx → EReal) (funext fun a => Fin.ext ?_)
  exact Pipeline.Window.rect_emb_val_of_index_zero (cfg1.win 1) t a (index1 t a) y

/-- One entry of the counts' block at point `t`: how often row `512 t + p` names the value `v`. -/
theorem blk0_counts (h : ∀ d i, ((m (xLoc d) : S1024x50.Idx → BitVec 32) i).toNat < 1000) (c : Dev nD) (t : Fin cfg1.N) (p : Fin 512)
    (v : Fin 1000) (b : Fin 1024) (hb : b.val = 512 * t.val + p.val) :
    blk0 (VR m) c t (ix4 ⟨p.val / 8, by omega⟩ ⟨p.val % 8, by omega⟩ ⟨v.val / 128, by omega⟩ ⟨v.val % 128, by omega⟩)
      = ∑ s : Fin 50, if named (m (xLoc c) : S1024x50.Idx → BitVec 32) b s = v then (1 : EReal) else 0 := by
  have hp := p.isLt
  have hv := v.isLt
  have hbl := b.isLt
  refine (blk0_apply m c t _).trans ?_
  refine (congrFun (V4_d m c) _).trans ?_
  refine (shapeCast_apply (counts (flat m c)) shapeCasts_S32x32768_S128x8x8x128 _
    (ix2 (⟨b.val / 32, by omega⟩ : Fin 32) (⟨1024 * (b.val % 32) + v.val, by omega⟩ : Fin 32768)) ?_).trans ?_
  · rw [Shape.rowMajor_val_two, Shape.rowMajor_val_four]
    show b.val / 32 * 32768 + (1024 * (b.val % 32) + v.val)
      = (((t.val * 64 + p.val / 8) * 8 + p.val % 8) * 8 + v.val / 128) * 128 + v.val % 128
    omega
  rw [flat_eq]
  refine (counts_apply (m (xLoc c)) (h c) (b.val / 32) (b.val % 32) v.val (by omega) (by omega) hv _ rfl rfl).trans ?_
  refine Finset.sum_congr rfl fun s _ => ?_
  have e : (⟨32 * (b.val / 32) + b.val % 32, by omega⟩ : Fin 1024) = b := Fin.ext (by show 32 * (b.val / 32) + b.val % 32 = b.val; omega)
  rw [e]

/-- One entry of point `t`'s product is the sum of the codebook's rows that row `512 t + p` names. -/
theorem point_eq (h : ∀ d i, ((m (xLoc d) : S1024x50.Idx → BitVec 32) i).toNat < 1000) (c : Dev nD) (t : Fin cfg1.N) (p : Fin 512)
    (k : Fin 1024) (b : Fin 1024) (hb : b.val = 512 * t.val + p.val) :
    k1_pay1 (F := Ideal) (blk0 (VR m) c t) (blk1 (VR m) c t) (ix2 p k)
      = bag (m (xLoc c) : S1024x50.Idx → BitVec 32) (m (cbLoc c) : S1000x1024.Idx → EReal) b k := by
  refine (k1_pay1_apply _ _ p k).trans ?_
  refine Eq.trans ?_ (bag_eq _ _ b k)
  exact Finset.sum_congr rfl fun v _ => congrArg₂ (· * ·) (blk0_counts m h c t p v b hb) (blk1_apply m c t _)

/-- The kernel's result is the sums of the codebook's rows. -/
theorem result_eq (h : ∀ d i, ((m (xLoc d) : S1024x50.Idx → BitVec 32) i).toNat < 1000) (c : Dev nD) :
    (result (F := Ideal) m c : S1024x1024.Idx → EReal)
      = fun i => bag (m (xLoc c) : S1024x50.Idx → BitVec 32) (m (cbLoc c) : S1000x1024.Idx → EReal) ⟨(i 0).val, (i 0).isLt⟩ ⟨(i 1).val, (i 1).isLt⟩ := by
  refine (dat (VR m) 8 c).arrAt_eq_of_covers 2 _ (by decide +kernel) fun t _ y => ?_
  blk_simp []
  have e : (y : S512x1024.Idx) = ix2 (⟨(y 0).val, (y 0).isLt⟩ : Fin 512) (⟨(y 1).val, (y 1).isLt⟩ : Fin 1024) :=
    funext fun a => match a with | ⟨0, _⟩ => rfl | ⟨1, _⟩ => rfl
  have h0 : win1_2.index t 0 = t.val := index2 t 0
  have h1 : win1_2.index t 1 = 0 := index2 t 1
  have ht : t.val < 2 := t.isLt
  have hy0 : (y 0).val < 512 := (y 0).isLt
  refine Eq.trans (congrArg (k1_pay1 (F := Ideal) (blk0 (VR m) c t) (blk1 (VR m) c t)) e) ?_
  refine (point_eq m h c t _ _ (⟨512 * t.val + (y 0).val, by omega⟩ : Fin 1024) rfl).trans ?_
  refine congrArg₂ (bag _ _) (Fin.ext ?_) (Fin.ext ?_)
  · show 512 * t.val + (y 0).val = win1_2.index t 0 * 512 + (y 0).val
    rw [h0, Nat.mul_comm]
  · show (y 1).val = win1_2.index t 1 * 1024 + (y 1).val
    rw [h1, Nat.zero_mul, Nat.zero_add]

end Cert.Proof.KI
-- ==== Proof.RefValue.lean ====
/-
  The reference's value: with every index below 1000, `jnp.take` reads the named row and fills nothing in, and the sum over the
  words' axis is `bag`.
-/
module

public import proofs.«01_k».proof.Proof.Bag
public import proofs.«01_k».proof.Proof.Gen.ReferenceIdeal.Run
public import Idealize.ShloMosaic.Lib.Pointwise.Reduce
public import Idealize.ShloMosaic.Lib.ValueIdxCore
public import Idealize.ShloMosaic.Lib.ReduceAll

@[expose] public section

noncomputable section

namespace Cert.Proof.Ref

open Cert.ReferenceIdeal Cert.ReferenceIdeal.Gen Idealize.ShloMosaic

variable (X : S1024x50.Idx → BitVec 32) (C : S1000x1024.Idx → EReal)

/-- The indices as the gather takes them: a negative one counted from the end, a unit axis put behind. -/
abbrev starts : S1024x50x1.Idx → BitVec 32 :=
  broadcastInDim S1024x50x1 ![0, 1] bcast_S1024x50_S1024x50x1_0_1
    (select (cmpi .slt X (broadcastInDim S1024x50 ![] bcast_S_S1024x50 (constantI S_ 32 0#32)))
      (addi X (broadcastInDim S1024x50 ![] bcast_S_S1024x50 (constantI S_ 32 1000#32))) X)

/-- Where the start index is a row of the codebook. -/
abbrev inside : S1024x50.Idx → BitVec 1 :=
  Host.reduce IntOp.andi
    (andi (cmpi .sge (starts X) (broadcastInDim S1024x50x1 ![] bcast_S_S1024x50x1 (constantI S_ 32 0#32)))
      (cmpi .sle (starts X) (broadcastInDim S1024x50x1 ![0, 1, 2] bcast_S1x1x1_S1024x50x1_0_1_2
        (broadcastInDim S1x1x1 ![2] bcast_S1_S1x1x1_2 (constantI S1 32 999#32)))))
    (constantI S_ 1 1#1) reducesTo_S1024x50x1_S1024x50_d2 h_S_

/-- The rows taken, the fill in place of those outside. -/
abbrev taken : S1024x50x1024.Idx → EReal :=
  select (broadcastInDim S1024x50x1024 ![0, 1] bcast_S1024x50_S1024x50x1024_0_1 (inside X))
    (Host.gather gather_S1000x1024_S1024x50x1_S1024x50x1024_2_0_n_n_0_2_11024 C (starts X))
    (broadcastInDim S1024x50x1024 ![] bcast_S_S1024x50x1024 (constant (F := Ideal) S_ .f32 0x7FC00000#32))

/-- The reference's result, as it computes it. -/
abbrev refValue : S1024x1024.Idx → EReal :=
  Host.reduceAdd (F := Ideal) (φ := .f32) (taken X C) (constant (F := Ideal) S_ .f32 0x00000000#32) reducesTo_S1024x50x1024_S1024x1024_d1 h_S_

variable (h : ∀ i, (X i).toNat < 1000)
include h

omit h in
/-- A small word is not negative. -/
theorem not_negative (x : BitVec 32) (hx : x.toNat < 1000) : IntOp.cmpi .slt x 0#32 = 0#1 := by
  have : ¬ x.slt 0#32 = true := by
    simp only [BitVec.slt_eq_decide, decide_eq_true_eq, BitVec.toInt_eq_toNat_cond, BitVec.toNat_ofNat, Nat.reducePow, Nat.reduceMod]
    omega
  simp [IntOp.cmpi, this]

/-- The start index of word `t` of row `b` is the word. -/
theorem starts_eq (i : S1024x50x1.Idx) : starts X i = X (ix2 ⟨(i 0).val, (i 0).isLt⟩ ⟨(i 1).val, (i 1).isLt⟩) := by
  have hb : ∀ (Y : S1024x50.Idx → BitVec 32), broadcastInDim S1024x50x1 ![0, 1] bcast_S1024x50_S1024x50x1_0_1 Y i
      = Y (ix2 ⟨(i 0).val, (i 0).isLt⟩ ⟨(i 1).val, (i 1).isLt⟩) := fun Y => by
    refine congrArg Y (funext fun a => Fin.ext ?_)
    match a with
    | ⟨0, _⟩ => rfl
    | ⟨1, _⟩ => rfl
  refine (hb _).trans ?_
  rw [ValueIdx.select_apply]
  show Scalar.select (IntOp.cmpi .slt (X _) 0#32) _ _ = _
  rw [not_negative _ (h _), ValueIdx.select_zero]

/-- Every start index is inside. -/
theorem inside_eq (i : S1024x50.Idx) : inside X i = 1#1 := by
  refine Host.reduce_andi_one _ _ _ _ _ rfl fun k => ?_
  show IntOp.andi (IntOp.cmpi .sge (starts X k) 0#32) (IntOp.cmpi .sle (starts X k) 999#32) = 1#1
  rw [starts_eq X h k]
  have hx := h (ix2 ⟨(k 0).val, (k 0).isLt⟩ ⟨(k 1).val, (k 1).isLt⟩)
  generalize X _ = x at hx
  have h1 : (0#32).sle x = true := by
    simp only [BitVec.sle_eq_decide, decide_eq_true_eq, BitVec.toInt_eq_toNat_cond, BitVec.toNat_ofNat, Nat.reducePow, Nat.reduceMod]
    omega
  have h2 : x.sle 999#32 = true := by
    simp only [BitVec.sle_eq_decide, decide_eq_true_eq, BitVec.toInt_eq_toNat_cond, BitVec.toNat_ofNat, Nat.reducePow, Nat.reduceMod]
    omega
  simp [IntOp.cmpi, h1, h2]
  decide

omit h in
/-- The gather reads, at word `t` of row `b` and column `j`, the codebook's row at the start index, cut off at its last row. -/
theorem gather_apply (I : S1024x50x1.Idx → BitVec 32) (y : S1024x50x1024.Idx) :
    Host.gather gather_S1000x1024_S1024x50x1_S1024x50x1024_2_0_n_n_0_2_11024 C I y
      = C (ix2 ⟨min (I (ix3 ⟨(y 0).val, (y 0).isLt⟩ ⟨(y 1).val, (y 1).isLt⟩ 0)).toInt.toNat 999, by omega⟩ ⟨(y 2).val, (y 2).isLt⟩) := by
  unfold Host.gather
  congr 1
  funext a
  refine Fin.ext ?_
  show GatherDims.start _ y I a + GatherDims.batchCoord _ y a + GatherDims.offCoord _ y a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (by decide)]
    unfold GatherDims.start
    rw [dif_pos (by decide)]
    refine congrArg (fun k => min (I k).toInt.toNat 999) (funext fun b => Fin.ext ?_)
    match b with
    | ⟨0, _⟩ => rfl
    | ⟨1, _⟩ => rfl
    | ⟨2, _⟩ => rfl
  · unfold GatherDims.start
    rw [dif_neg (by decide)]
    exact (Nat.zero_add _).trans rfl

/-- The reference's result is the sums of the codebook's rows. -/
theorem refValue_eq (i : S1024x1024.Idx) : refValue X C i = bag X C ⟨(i 0).val, (i 0).isLt⟩ ⟨(i 1).val, (i 1).isLt⟩ := by
  rw [refValue, Host.reduceAdd_apply, Ideal.hostReduceAdd_def, Ideal.hostReduceAdd_r3_a1]
  have h0 : constant (F := Ideal) S_ .f32 0x00000000#32 (Shape.Idx.first h_S_) = (0 : EReal) := Ideal.ofBits_zero_f32
  rw [h0, zero_add]
  refine Finset.sum_congr rfl fun t _ => ?_
  rw [taken, ValueIdx.select_apply]
  have : ∀ y, broadcastInDim S1024x50x1024 ![0, 1] bcast_S1024x50_S1024x50x1024_0_1 (inside X) y = 1#1 := fun y => inside_eq X h _
  rw [this, ValueIdx.select_one, gather_apply]
  refine congrArg C (congrArg₂ ix2 (Fin.ext ?_) rfl)
  have e : starts X (ix3 ⟨(i 0).val, (i 0).isLt⟩ t 0) = X (ix2 ⟨(i 0).val, (i 0).isLt⟩ t) := starts_eq X h _
  have hx := h (ix2 ⟨(i 0).val, (i 0).isLt⟩ t)
  have e' : (X (ix2 ⟨(i 0).val, (i 0).isLt⟩ t)).toInt.toNat = (X (ix2 ⟨(i 0).val, (i 0).isLt⟩ t)).toNat := by
    rw [BitVec.toInt_eq_toNat_of_lt (by omega)]; rfl
  exact congrArg (min · 999) ((congrArg (fun x : BitVec 32 => x.toInt.toNat) e).trans e')

end Cert.Proof.Ref

end
-- ==== Proof.Value.lean ====
/-
  The value claim: the kernel and the reference, read at extended reals, both leave on every device the sums of the codebook's rows
  that the indices name.
-/
module

public import proofs.«01_k».proof.Proof.Frames
public import proofs.«01_k».proof.Proof.KernelValue
public import proofs.«01_k».proof.Proof.RefValue

@[expose] public section

noncomputable section

namespace Cert.Proof

open Idealize.ShloMosaic Idealize.SL.Sem

/-- `Cert.algebraic_KernelIdeal_ReferenceIdeal`: both results are `bag`, row by row and column by column. -/
theorem algebraic : Cert.algebraic_KernelIdeal_ReferenceIdeal := fun m g m' g' hp hargs => by
  have small (d : Dev Cert.KernelIdeal.nD) (i : Cert.KernelIdeal.S1024x50.Idx) :
      ((m (KI.xLoc d) : Cert.KernelIdeal.S1024x50.Idx → BitVec 32) i).toNat < 1000 := indices_below _ _ (hp d) i
  refine ⟨fun c => KI.result (F := Ideal) m c, ?_, ?_⟩
  · exact (θ_run Cert.KernelIdeal.defs _ _).mono (fun _ h c => ⟨(h.1 c).2.2, (h.1 c).1, (h.1 c).2.1⟩) (KI.run_main (F := Ideal) m g small)
  · refine (θ_run Cert.ReferenceIdeal.defs _ _).mono (fun r h c => ⟨(h c).1.trans ?_, (h c).2⟩) (Cert.ReferenceIdeal.Value.run (F := Ideal) m' g')
    refine Eq.trans ?_ (KI.result_eq m small c).symm
    rw [(hargs c).1, (hargs c).2]
    exact funext fun i => Ref.refValue_eq _ _ (small c) i

end Cert.Proof

end
-- ==== Proof.lean ====
/-
  The claims of the statement, assembled: the frames are in Proof/Frames.lean, the value claim in Proof/Value.lean.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Value

@[expose] public section

noncomputable section

namespace Cert.Proof

/-- Every claim of the certificate. -/
theorem claim : Cert.Claim := ⟨Cert.Kernel.Gen.facts, Cert.KernelIdeal.Gen.facts, Cert.ReferenceIdeal.Gen.facts, Cert.Pre_in_range.Gen.facts,
  frame_kernel, frame_kernelIdeal, frame_referenceIdeal, frame_referenceIdeal_in_range, trivial, algebraic⟩

end Cert.Proof

end
